-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 512, 8, 64]⟩ (Layout.meshBlock [2, 2] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 512, 8, 64]⟩ (Layout.meshBlock [2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 512, 8, 64]⟩ (Layout.meshBlock [2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.blockN ⟨4, ![2, 256, 8, 64]⟩ ⟨4, ![2, 512, 8, 64]⟩ (Layout.meshBlock [2, 2] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)

variable [Facts]

def fn {F : FTy → Type} [FloatOps F] (main_arg0 : FVec F S2x256x8x64 .f32) (main_arg1 : FVec F S2x256x8x64 .f32) (main_arg2 : FVec F S2x256x8x64 .f32) : IVec S2x256x8x64 1 :=
  let main_v0 : FVec F S2x256x8x64 .f32 := Host.absf main_arg0
  let main_cst : FVec F S_ .f32 := constant S_ .f32 0x7F800000#32
  let main_v1 : FVec F S2x256x8x64 .f32 := broadcastInDim S2x256x8x64 ![] bcast_S_S2x256x8x64 main_cst
  let main_v2 : IVec S2x256x8x64 1 := cmpf .olt main_v0 main_v1
  let main_v3 : FVec F S2x256x8x64 .f32 := Host.absf main_arg1
  let main_cst_0 : FVec F S_ .f32 := constant S_ .f32 0x7F800000#32
  let main_v4 : FVec F S2x256x8x64 .f32 := broadcastInDim S2x256x8x64 ![] bcast_S_S2x256x8x64 main_cst_0
  let main_v5 : IVec S2x256x8x64 1 := cmpf .olt main_v3 main_v4
  let main_v6 : IVec S2x256x8x64 1 := andi main_v2 main_v5
  main_v6
-- ==== Pre_finite_ReferenceIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)

variable [Facts]

def fn {F : FTy → Type} [FloatOps F] (main_arg0 : FVec F S2x512x8x64 .f32) (main_arg1 : FVec F S2x512x8x64 .f32) (main_arg2 : FVec F S2x512x8x64 .f32) : IVec S2x512x8x64 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_v3 : FVec F S2x512x8x64 .f32 := Host.absf main_arg1
  let main_cst_0 : FVec F S_ .f32 := constant S_ .f32 0x7F800000#32
  let main_v4 : FVec F S2x512x8x64 .f32 := broadcastInDim S2x512x8x64 ![] bcast_S_S2x512x8x64 main_cst_0
  let main_v5 : IVec S2x512x8x64 1 := cmpf .olt main_v3 main_v4
  let main_v6 : IVec S2x512x8x64 1 := andi main_v2 main_v5
  main_v6
-- ==== Kernel.lean ====
abbrev S2x256x8x64 : Shape := ⟨4, ![2, 256, 8, 64]⟩
abbrev S2x8x256x64 : Shape := ⟨4, ![2, 8, 256, 64]⟩
abbrev S16x256x64 : Shape := ⟨3, ![16, 256, 64]⟩
abbrev S16 : Shape := ⟨1, ![16]⟩
abbrev S8 : Shape := ⟨1, ![8]⟩
abbrev S_ : Shape := ⟨0, ![]⟩
abbrev S1 : Shape := ⟨1, ![1]⟩
abbrev S1x256x64 : Shape := ⟨3, ![1, 256, 64]⟩
abbrev S256x64 : Shape := ⟨2, ![256, 64]⟩
abbrev S256x256 : Shape := ⟨2, ![256, 256]⟩
abbrev S256 : Shape := ⟨1, ![256]⟩
abbrev S256x1 : Shape := ⟨2, ![256, 1]⟩

abbrev nBuf : Space → Nat
  | .hbm => 15
  | .vmem => 6
  | .smem => 0
  | _ => 0

abbrev bufTy : (tb : Table) → Fin (tcTables nBuf tb) → BufTy
  | .hbm, ⟨0, _⟩ => ⟨S2x256x8x64, .f32⟩
  | .hbm, ⟨1, _⟩ => ⟨S2x256x8x64, .f32⟩
  | .hbm, ⟨2, _⟩ => ⟨S2x256x8x64, .f32⟩
  | .hbm, ⟨3, _⟩ => ⟨S2x256x8x64, .bf16⟩
  | .hbm, ⟨4, _⟩ => ⟨S2x8x256x64, .bf16⟩
  | .hbm, ⟨5, _⟩ => ⟨S16x256x64, .bf16⟩
  | .hbm, ⟨6, _⟩ => ⟨S2x256x8x64, .bf16⟩
  | .hbm, ⟨7, _⟩ => ⟨S2x8x256x64, .bf16⟩
  | .hbm, ⟨8, _⟩ => ⟨S16x256x64, .bf16⟩
  | .hbm, ⟨9, _⟩ => ⟨S2x256x8x64, .bf16⟩
  | .hbm, ⟨10, _⟩ => ⟨S2x8x256x64, .bf16⟩
  | .hbm, ⟨11, _⟩ => ⟨S16x256x64, .bf16⟩
  | .hbm, ⟨12, _⟩ => ⟨S16x256x64, .f32⟩
  | .hbm, ⟨13, _⟩ => ⟨S2x8x256x64, .f32⟩
  | .hbm, ⟨14, _⟩ => ⟨S2x256x8x64, .f32⟩
  | .local _ .vmem, ⟨0, _⟩ => ⟨S16x256x64, .bf16⟩
  | .local _ .vmem, ⟨1, _⟩ => ⟨S16x256x64, .bf16⟩
  | .local _ .vmem, ⟨2, _⟩ => ⟨S16x256x64, .bf16⟩
  | .local _ .vmem, ⟨3, _⟩ => ⟨S16x256x64, .f32⟩
  | .local _ .vmem, ⟨4, _⟩ => ⟨S16x256x64, .bf16⟩
  | .local _ .vmem, ⟨5, _⟩ => ⟨S16x256x64, .bf16⟩
  | _, _ => ⟨S2x256x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_6 : BitVec 32 := 2#32
  let v11 : BitVec 32 := Scalar.muli v6 c2_i32_6
  let v12 : BitVec 32 := Scalar.addi c0_i32 v11
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7 : BitVec 32 := 1#32
  let v13 : BitVec 32 := Scalar.muli v5 c1_i32_7
  let v14 : BitVec 32 := Scalar.addi v12 v13
  v14.toNat
def k0_dev2 (d0 : Dev nD) : Nat :=
  let c0_i32_10 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_9 : BitVec 32 := 2#32
  let v15 : BitVec 32 := Scalar.muli v2 c2_i32_9
  let v16 : BitVec 32 := Scalar.addi c0_i32_10 v15
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_11 : BitVec 32 := 1#32
  let v17 : BitVec 32 := Scalar.muli v7 c1_i32_11
  let v18 : BitVec 32 := Scalar.addi v16 v17
  v18.toNat
def k0_off1 (d0 : Dev nD) (c0_i32_13 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32 : BitVec 32 := 8#32
  let v8 : BitVec 32 := Scalar.muli v5 c8_i32
  let v19 : BitVec 32 := Scalar.addi v8 c0_i32_13
  let c0_i32_19 : BitVec 32 := 0#32
  let c0_i32_20 : BitVec 32 := 0#32
  ![v19.toNat, 0, 0]
def k0_dev3 (d0 : Dev nD) : Nat :=
  let c0_i32_17 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_16 : BitVec 32 := 2#32
  let v20 : BitVec 32 := Scalar.muli v6 c2_i32_16
  let v21 : BitVec 32 := Scalar.addi c0_i32_17 v20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_18 : BitVec 32 := 1#32
  let v22 : BitVec 32 := Scalar.muli v5 c1_i32_18
  let v23 : BitVec 32 := Scalar.addi v21 v22
  v23.toNat
def k0_dev4 (d0 : Dev nD) : Nat :=
  let c0_i32_26 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_25 : BitVec 32 := 2#32
  let v30 : BitVec 32 := Scalar.muli v6 c2_i32_25
  let v31 : BitVec 32 := Scalar.addi c0_i32_26 v30
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_27 : BitVec 32 := 1#32
  let v32 : BitVec 32 := Scalar.muli v5 c1_i32_27
  let v33 : BitVec 32 := Scalar.addi v31 v32
  v33.toNat
def k0_dev5 (d0 : Dev nD) : Nat :=
  let c0_i32_36 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_35 : BitVec 32 := 2#32
  let v41 : BitVec 32 := Scalar.muli v6 c2_i32_35
  let v42 : BitVec 32 := Scalar.addi c0_i32_36 v41
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v43 : BitVec 32 := Scalar.muli v5 c1_i32_37
  let v44 : BitVec 32 := Scalar.addi v42 v43
  v44.toNat
def k0_dev6 (d0 : Dev nD) : Nat :=
  let c0_i32_44 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_43 : BitVec 32 := 2#32
  let v51 : BitVec 32 := Scalar.muli v6 c2_i32_43
  let v52 : BitVec 32 := Scalar.addi c0_i32_44 v51
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_45 : BitVec 32 := 1#32
  let v53 : BitVec 32 := Scalar.muli v5 c1_i32_45
  let v54 : BitVec 32 := Scalar.addi v52 v53
  v54.toNat
def k0_dev7 (d0 : Dev nD) : Nat :=
  let c0_i32_54 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_53 : BitVec 32 := 2#32
  let v62 : BitVec 32 := Scalar.muli v6 c2_i32_53
  let v63 : BitVec 32 := Scalar.addi c0_i32_54 v62
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_55 : BitVec 32 := 1#32
  let v64 : BitVec 32 := Scalar.muli v5 c1_i32_55
  let v65 : BitVec 32 := Scalar.addi v63 v64
  v65.toNat
def k0_dev8 (d0 : Dev nD) : Nat :=
  let c0_i32_62 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_61 : BitVec 32 := 2#32
  let v72 : BitVec 32 := Scalar.muli v6 c2_i32_61
  let v73 : BitVec 32 := Scalar.addi c0_i32_62 v72
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_63 : BitVec 32 := 1#32
  let v74 : BitVec 32 := Scalar.muli v5 c1_i32_63
  let v75 : BitVec 32 := Scalar.addi v73 v74
  v75.toNat
def k0_dev9 (d0 : Dev nD) : Nat :=
  let c0_i32_71 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_70 : BitVec 32 := 2#32
  let v83 : BitVec 32 := Scalar.muli v6 c2_i32_70
  let v84 : BitVec 32 := Scalar.addi c0_i32_71 v83
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_72 : BitVec 32 := 1#32
  let v85 : BitVec 32 := Scalar.muli v5 c1_i32_72
  let v86 : BitVec 32 := Scalar.addi v84 v85
  v86.toNat
def k0_dev10 (d0 : Dev nD) : Nat :=
  let c0_i32_79 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_78 : BitVec 32 := 2#32
  let v93 : BitVec 32 := Scalar.muli v6 c2_i32_78
  let v94 : BitVec 32 := Scalar.addi c0_i32_79 v93
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_80 : BitVec 32 := 1#32
  let v95 : BitVec 32 := Scalar.muli v5 c1_i32_80
  let v96 : BitVec 32 := Scalar.addi v94 v95
  v96.toNat
def k0_dev11 (d0 : Dev nD) : Nat :=
  let c0_i32_88 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_87 : BitVec 32 := 2#32
  let v104 : BitVec 32 := Scalar.muli v6 c2_i32_87
  let v105 : BitVec 32 := Scalar.addi c0_i32_88 v104
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v106 : BitVec 32 := Scalar.muli v5 c1_i32_89
  let v107 : BitVec 32 := Scalar.addi v105 v106
  v107.toNat
def k0_dev12 (d0 : Dev nD) : Nat :=
  let c0_i32_96 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_95 : BitVec 32 := 2#32
  let v114 : BitVec 32 := Scalar.muli v6 c2_i32_95
  let v115 : BitVec 32 := Scalar.addi c0_i32_96 v114
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_97 : BitVec 32 := 1#32
  let v116 : BitVec 32 := Scalar.muli v5 c1_i32_97
  let v117 : BitVec 32 := Scalar.addi v115 v116
  v117.toNat
def k0_dev13 (d0 : Dev nD) : Nat :=
  let c0_i32_105 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_104 : BitVec 32 := 2#32
  let v125 : BitVec 32 := Scalar.muli v6 c2_i32_104
  let v126 : BitVec 32 := Scalar.addi c0_i32_105 v125
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_106 : BitVec 32 := 1#32
  let v127 : BitVec 32 := Scalar.muli v5 c1_i32_106
  let v128 : BitVec 32 := Scalar.addi v126 v127
  v128.toNat
def k0_dev14 (d0 : Dev nD) : Nat :=
  let c0_i32_113 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_112 : BitVec 32 := 2#32
  let v135 : BitVec 32 := Scalar.muli v6 c2_i32_112
  let v136 : BitVec 32 := Scalar.addi c0_i32_113 v135
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_114 : BitVec 32 := 1#32
  let v137 : BitVec 32 := Scalar.muli v5 c1_i32_114
  let v138 : BitVec 32 := Scalar.addi v136 v137
  v138.toNat
def k0_dev15 (d0 : Dev nD) : Nat :=
  let c0_i32_122 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_121 : BitVec 32 := 2#32
  let v146 : BitVec 32 := Scalar.muli v6 c2_i32_121
  let v147 : BitVec 32 := Scalar.addi c0_i32_122 v146
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_123 : BitVec 32 := 1#32
  let v148 : BitVec 32 := Scalar.muli v5 c1_i32_123
  let v149 : BitVec 32 := Scalar.addi v147 v148
  v149.toNat
def k0_dev16 (d0 : Dev nD) : Nat :=
  let c0_i32_130 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_129 : BitVec 32 := 2#32
  let v156 : BitVec 32 := Scalar.muli v6 c2_i32_129
  let v157 : BitVec 32 := Scalar.addi c0_i32_130 v156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_131 : BitVec 32 := 1#32
  let v158 : BitVec 32 := Scalar.muli v5 c1_i32_131
  let v159 : BitVec 32 := Scalar.addi v157 v158
  v159.toNat
def k0_dev17 (d0 : Dev nD) : Nat :=
  let c0_i32_139 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_138 : BitVec 32 := 2#32
  let v167 : BitVec 32 := Scalar.muli v6 c2_i32_138
  let v168 : BitVec 32 := Scalar.addi c0_i32_139 v167
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_140 : BitVec 32 := 1#32
  let v169 : BitVec 32 := Scalar.muli v5 c1_i32_140
  let v170 : BitVec 32 := Scalar.addi v168 v169
  v170.toNat
def k0_dev18 (d0 : Dev nD) : Nat :=
  let c0_i32_147 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_146 : BitVec 32 := 2#32
  let v177 : BitVec 32 := Scalar.muli v6 c2_i32_146
  let v178 : BitVec 32 := Scalar.addi c0_i32_147 v177
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_148 : BitVec 32 := 1#32
  let v179 : BitVec 32 := Scalar.muli v5 c1_i32_148
  let v180 : BitVec 32 := Scalar.addi v178 v179
  v180.toNat
def k0_off2 (d0 : Dev nD) (c0_i32_153 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32 : BitVec 32 := 8#32
  let v8 : BitVec 32 := Scalar.muli v5 c8_i32
  let v187 : BitVec 32 := Scalar.addi v8 c0_i32_153
  let v204 : Index := Scalar.indexCast v187
  let c0 : Index := 0#32
  let c0_172 : Index := 0#32
  ![v204.toNat, 0, 0]
def k0_dev19 (d0 : Dev nD) : Nat :=
  let c0_i32_195 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_194 : BitVec 32 := 2#32
  let v252 : BitVec 32 := Scalar.muli v2 c2_i32_194
  let v253 : BitVec 32 := Scalar.addi c0_i32_195 v252
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_196 : BitVec 32 := 1#32
  let v254 : BitVec 32 := Scalar.muli v7 c1_i32_196
  let v255 : BitVec 32 := Scalar.addi v253 v254
  v255.toNat
def k0_dev20 (d0 : Dev nD) : Nat :=
  let c0_i32_245 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_244 : BitVec 32 := 2#32
  let v327 : BitVec 32 := Scalar.muli v2 c2_i32_244
  let v328 : BitVec 32 := Scalar.addi c0_i32_245 v327
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_246 : BitVec 32 := 1#32
  let v329 : BitVec 32 := Scalar.muli v7 c1_i32_246
  let v330 : BitVec 32 := Scalar.addi v328 v329
  v330.toNat
def k0_dev21 (d0 : Dev nD) : Nat :=
  let c0_i32_295 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_294 : BitVec 32 := 2#32
  let v402 : BitVec 32 := Scalar.muli v2 c2_i32_294
  let v403 : BitVec 32 := Scalar.addi c0_i32_295 v402
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_296 : BitVec 32 := 1#32
  let v404 : BitVec 32 := Scalar.muli v7 c1_i32_296
  let v405 : BitVec 32 := Scalar.addi v403 v404
  v405.toNat
def k0_dev22 (d0 : Dev nD) : Nat :=
  let c0_i32_345 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_344 : BitVec 32 := 2#32
  let v477 : BitVec 32 := Scalar.muli v2 c2_i32_344
  let v478 : BitVec 32 := Scalar.addi c0_i32_345 v477
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_346 : BitVec 32 := 1#32
  let v479 : BitVec 32 := Scalar.muli v7 c1_i32_346
  let v480 : BitVec 32 := Scalar.addi v478 v479
  v480.toNat
def k0_dev23 (d0 : Dev nD) : Nat :=
  let c0_i32_395 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_394 : BitVec 32 := 2#32
  let v552 : BitVec 32 := Scalar.muli v2 c2_i32_394
  let v553 : BitVec 32 := Scalar.addi c0_i32_395 v552
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_396 : BitVec 32 := 1#32
  let v554 : BitVec 32 := Scalar.muli v7 c1_i32_396
  let v555 : BitVec 32 := Scalar.addi v553 v554
  v555.toNat
def k0_dev24 (d0 : Dev nD) : Nat :=
  let c0_i32_445 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_444 : BitVec 32 := 2#32
  let v627 : BitVec 32 := Scalar.muli v2 c2_i32_444
  let v628 : BitVec 32 := Scalar.addi c0_i32_445 v627
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_446 : BitVec 32 := 1#32
  let v629 : BitVec 32 := Scalar.muli v7 c1_i32_446
  let v630 : BitVec 32 := Scalar.addi v628 v629
  v630.toNat
def k0_dev25 (d0 : Dev nD) : Nat :=
  let c0_i32_495 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_494 : BitVec 32 := 2#32
  let v702 : BitVec 32 := Scalar.muli v2 c2_i32_494
  let v703 : BitVec 32 := Scalar.addi c0_i32_495 v702
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_496 : BitVec 32 := 1#32
  let v704 : BitVec 32 := Scalar.muli v7 c1_i32_496
  let v705 : BitVec 32 := Scalar.addi v703 v704
  v705.toNat
def k0_dev26 (d0 : Dev nD) : Nat :=
  let c0_i32_545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_544 : BitVec 32 := 2#32
  let v777 : BitVec 32 := Scalar.muli v2 c2_i32_544
  let v778 : BitVec 32 := Scalar.addi c0_i32_545 v777
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_546 : BitVec 32 := 1#32
  let v779 : BitVec 32 := Scalar.muli v7 c1_i32_546
  let v780 : BitVec 32 := Scalar.addi v778 v779
  v780.toNat
def k0_off3 (d0 : Dev nD) (c0_i32_551 : BitVec 32) : Fin 3 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c8_i32_4 : BitVec 32 := 8#32
  let v9 : BitVec 32 := Scalar.muli v7 c8_i32_4
  let v787 : BitVec 32 := Scalar.addi v9 c0_i32_551
  let c0_i32_557 : BitVec 32 := 0#32
  let c0_i32_558 : BitVec 32 := 0#32
  ![v787.toNat, 0, 0]
abbrev stage0_0 : Fin 1 → Memref sig .tc .vmem S16x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x8x64 : Shape := ⟨4, ![2, 512, 8, 64]⟩
abbrev S2x8x512x512 : Shape := ⟨4, ![2, 8, 512, 512]⟩
abbrev S_ : Shape := ⟨0, ![]⟩
abbrev S2x8x512 : Shape := ⟨3, ![2, 8, 512]⟩
abbrev S2x8x512x1 : Shape := ⟨4, ![2, 8, 512, 1]⟩
abbrev S2x8x64x512 : Shape := ⟨4, ![2, 8, 64, 512]⟩

abbrev nBuf : Space → Nat
  | .hbm => 20
  | .vmem => 0
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x512x8x64, .f32⟩
  | .hbm, ⟨3, _⟩ => ⟨S2x8x512x512, .f32⟩
  | .hbm, ⟨4, _⟩ => ⟨S_, .f32⟩
  | .hbm, ⟨5, _⟩ => ⟨S2x8x512x512, .f32⟩
  | .hbm, ⟨6, _⟩ => ⟨S2x8x512x512, .f32⟩
  | .hbm, ⟨7, _⟩ => ⟨S_, .f32⟩
  | .hbm, ⟨8, _⟩ => ⟨S2x8x512, .f32⟩
  | .hbm, ⟨9, _⟩ => ⟨S2x8x512x1, .f32⟩
  | .hbm, ⟨10, _⟩ => ⟨S2x8x512x512, .f32⟩
  | .hbm, ⟨11, _⟩ => ⟨S2x8x512x512, .f32⟩
  | .hbm, ⟨12, _⟩ => ⟨S2x8x512x512, .f32⟩
  | .hbm, ⟨13, _⟩ => ⟨S_, .f32⟩
  | .hbm, ⟨14, _⟩ => ⟨S2x8x512, .f32⟩
  | .hbm, ⟨15, _⟩ => ⟨S2x8x512x1, .f32⟩
  | .hbm, ⟨16, _⟩ => ⟨S2x8x512x512, .f32⟩
  | .hbm, ⟨17, _⟩ => ⟨S2x8x512x512, .f32⟩
  | .hbm, ⟨18, _⟩ => ⟨S2x8x64x512, .f32⟩
  | .hbm, ⟨19, _⟩ => ⟨S2x512x8x64, .f32⟩
  | _, _ => ⟨S2x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Common.lean ====
/-
The protocol of the kernel on its 2 × 2 mesh: the two neighbours of a device, the rows of the buffers, the semaphore cells,
what each landing hands over (with contents), and what each device owes.

Device `c = 2 x + y` works on the eight rows `base c + j` (`j < 8`) of its sixteen (batch, head) rows.

* Barrier cell: one round of two units. `xn c` pays one with the eight rows of its two landing buffers that `c` will fill,
  `yn c` pays the other with the eight rows of its result buffer that `c` will fill.
* Families of copy cells, eight cells each: `0` key sends, `1` value sends, `2` key arrivals, `3` value arrivals,
  `4` result sends, `5` result arrivals.
-/
module

public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic
public import Idealize.SL.BI.BigOpNat

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's element: its rounds are paid under two names. -/
abbrev UB : Type := URounds (GSem nD τ sig) Bool
/-- The whole ghost state: the staging pipeline's and the protocol's. -/
abbrev UU : Type := UR sig nD τ × UB

local notation "𝕄" => MT nD τ sig Unit (Elt F) ℕ UU ℕ

/-- Where the staging pipeline's part sits. -/
abbrev EP : Emb (UR sig nD τ) (MT nD τ sig Unit (Elt F) ℕ UU ℕ) := embL
/-- Where the protocol's part sits. -/
abbrev ER : Emb UB (MT nD τ sig Unit (Elt F) ℕ UU ℕ) := embR

/-- No loop needs a variant. -/
abbrev 𝒱₀ : Variants := Variants.none

/-! ## The two neighbours -/

/-- The neighbour across the first mesh axis: it holds the other half of the keys and values. -/
def xn (c : Dev nD) : Dev nD := ⟨((c.val % 2) + 2) - 2 * (c.val / 2), by have := c.isLt; revert this; generalize c.val = v; decide +revert⟩
/-- The neighbour across the second mesh axis: it computes the other eight rows of the result. -/
def yn (c : Dev nD) : Dev nD := ⟨(2 * (c.val / 2) + 1) - (c.val % 2), by have := c.isLt; revert this; generalize c.val = v; decide +revert⟩
/-- The first of the eight rows a device computes. -/
def base (c : Dev nD) : ℕ := 8 * (c.val % 2)

/-- Twice across the first axis is home. -/
theorem xn_xn (c : Dev nD) : xn (xn c) = c := by revert c; decide
/-- Twice across the second axis is home. -/
theorem yn_yn (c : Dev nD) : yn (yn c) = c := by revert c; decide
/-- The first neighbour is another device. -/
theorem xn_ne (c : Dev nD) : xn c ≠ c := by revert c; decide
/-- The second neighbour is another device. -/
theorem yn_ne (c : Dev nD) : yn c ≠ c := by revert c; decide
/-- The two neighbours are different. -/
theorem xn_ne_yn (c : Dev nD) : xn c ≠ yn c := by revert c; decide
/-- Across the first axis the same rows are computed. -/
theorem base_xn (c : Dev nD) : base (xn c) = base c := by revert c; decide
/-- Across the second axis the other eight rows are computed. -/
theorem base_yn (c : Dev nD) : base (yn c) = 8 - base c := by revert c; decide
/-- A device computes the first eight rows or the last. -/
theorem base_cases (c : Dev nD) : base c = 0 ∨ base c = 8 := by revert c; decide
/-- The neighbours as permutations of the devices. -/
def xswap : Dev nD ≃ Dev nD := ⟨xn, xn, xn_xn, xn_xn⟩
/-- The second neighbour, as a permutation of the devices. -/
def yswap : Dev nD ≃ Dev nD := ⟨yn, yn, yn_yn, yn_yn⟩

/-! ## Rows -/

/-- The elements of row `i` of a `16 × 256 × 64` buffer. -/
def row (i : ℕ) : Finset S16x256x64.Idx := Finset.univ.filter fun x => (x 0).val = i

/-- An element is of a row when its first coordinate is. -/
theorem mem_row {i : ℕ} {x : S16x256x64.Idx} : x ∈ row i ↔ (x 0).val = i := by simp [row]

/-- Different rows share no element. -/
theorem row_disjoint {i i' : ℕ} (h : i ≠ i') : Disjoint (row i) (row i') :=
  Finset.disjoint_left.mpr fun x hx hx' => h ((mem_row.mp hx).symm.trans (mem_row.mp hx'))

/-- The unit rectangle at `(i, 0, 0)` of one row's sizes covers row `i`. -/
theorem rect_row (i : ℕ) (inb : ∀ a, (![i, 0, 0] : Fin 3 → ℕ) a + S1x256x64.size a ≤ S16x256x64.size a) :
    (Rect.unit (s := S16x256x64) ![i, 0, 0] S1x256x64.size inb).set = row i := by
  ext x
  rw [Rect.mem_set_unit, mem_row]
  constructor
  · intro h
    have := h 0
    simp at this
    omega
  · intro h a
    fin_cases a
    · simp; omega
    · have := (x 1).isLt; simp at this ⊢; omega
    · have := (x 2).isLt; simp at this ⊢; omega

/-! ## Semaphores and credits -/

/-- Copy semaphore `j` of family `f`. -/
def dsem (f j : ℕ) : DmaSem sig := ⟨min (4 + 8 * f + j) 51, Nat.lt_succ_of_le (Nat.min_le_right _ _)⟩

/-- A copy semaphore's number. -/
theorem dsem_val {f j : ℕ} (hf : f < 6) (hj : j < 8) : (dsem f j).val = 4 + 8 * f + j := by
  show min (4 + 8 * f + j) 51 = _; omega

/-- The barrier semaphore. -/
abbrev barS : Sem sig := 0
/-- Device `c`'s barrier cell. -/
abbrev barCell (c : Dev nD) : GSem nD τ sig := ((c : Thread nD τ), .reg barS)
/-- Device `c`'s copy cell `j` of family `f`. -/
abbrev dcell (c : Dev nD) (f j : ℕ) : GSem nD τ sig := ((c : Thread nD τ), .dma (dsem f j))

/-- The credit of one row of a 16-bit buffer, and of one row of the result. -/
def cK : ℕ := sig.dmaCredit .tc (Kind.table .tc .vmem) (Memref.whole cc0_scratch0 : Memref sig .tc .vmem S16x256x64 .bf16).view.buf S1x256x64 .bf16
/-- The credit of one row of the result. -/
def cO : ℕ := sig.dmaCredit .tc (Kind.table .tc .vmem) (Memref.whole cc0_stg3_0 : Memref sig .tc .vmem S16x256x64 .f32).view.buf S1x256x64 .f32

/-- A row of a 16-bit buffer has a positive credit. -/
theorem cK_pos : 0 < cK := by
  have := View.dmaCredit_pos ((Memref.whole cc0_scratch0 : Memref sig .tc .vmem S16x256x64 .bf16).slice
    (Rect.unit (s := S16x256x64) ![0, 0, 0] S1x256x64.size (by decide)) (fun _ => rfl)).view (by decide)
  exact this
/-- So has a row of the result. -/
theorem cO_pos : 0 < cO := by
  have := View.dmaCredit_pos ((Memref.whole cc0_stg3_0 : Memref sig .tc .vmem S16x256x64 .f32).slice
    (Rect.unit (s := S16x256x64) ![0, 0, 0] S1x256x64.size (by decide)) (fun _ => rfl)).view (by decide)
  exact this

/-- The credit of a copy of family `f`. -/
def cred_ (f : ℕ) : ℕ := if f < 4 then cK else cO

/-! ## Contents -/

/-- The index of a `16 × 256 × 64` buffer, and of one row of it, by coordinates. -/
def ix16 (i : Fin 16) (a : Fin 256) (b : Fin 64) : S16x256x64.Idx := fun k => match k with
  | ⟨0, _⟩ => i
  | ⟨1, _⟩ => a
  | ⟨2, _⟩ => b
/-- The index of one row by coordinates. -/
def ix1 (a : Fin 256) (b : Fin 64) : S1x256x64.Idx := fun k => match k with
  | ⟨0, _⟩ => (0 : Fin 1)
  | ⟨1, _⟩ => a
  | ⟨2, _⟩ => b

/-- What the kernel computes for one row, from that row of the queries and of the two halves of the keys and values. -/
def headFn (q k kr v vr : Vec F S1x256x64 .bf16) : FVec F S1x256x64 .f32 := k0_pay3 (k0_pay2 (k0_pay1 q) k kr v vr)

/-- Row `i` of a buffer's contents, as a `1 × 256 × 64` vector. -/
def rowOf {e : EltTy} (X : S16x256x64.Idx → Elt F e) (i : Fin 16) : S1x256x64.Idx → Elt F e := fun y => X (ix16 i (y 1) (y 2))

variable (QS KS VS : Dev nD → S16x256x64.Idx → Elt F .bf16)

/-- The rows device `c` computes, as contents of the whole result buffer. -/
def outC (c : Dev nD) : S16x256x64.Idx → Elt F .f32 := fun x =>
  headFn (rowOf (QS c) (x 0)) (rowOf (KS c) (x 0)) (rowOf (KS (xn c)) (x 0)) (rowOf (VS c) (x 0)) (rowOf (VS (xn c)) (x 0)) (ix1 (x 1) (x 2))

/-- What device `c`'s result buffer holds at the end. -/
def finC (c : Dev nD) : S16x256x64.Idx → Elt F .f32 := fun x =>
  if base c ≤ (x 0).val ∧ (x 0).val < base c + 8 then outC QS KS VS c x else outC QS KS VS (yn c) x

/-! ## Pieces of buffers -/

/-- The staged queries, whole. -/
def qP (c : Dev nD) (f : S16x256x64.Idx → Elt F .bf16) : sProp 𝕄 := ((c : Thread nD τ).loc cc0_stg0_0) ↦{fullShare} f
/-- The half share of the staged keys that stays whole on the device. -/
def kW (c : Dev nD) (f : S16x256x64.Idx → Elt F .bf16) : sProp 𝕄 := ((c : Thread nD τ).loc cc0_stg1_0) ↦{fullShare.right} f
/-- The same of the staged values. -/
def vW (c : Dev nD) (f : S16x256x64.Idx → Elt F .bf16) : sProp 𝕄 := ((c : Thread nD τ).loc cc0_stg2_0) ↦{fullShare.right} f
/-- Row `i` of the key (value) buffer at the half share that is sent; of the two landing buffers; of the result. -/
def kR (c : Dev nD) (i : ℕ) (f : S16x256x64.Idx → Elt F .bf16) : sProp 𝕄 := ((c : Thread nD τ).loc cc0_stg1_0) ↦[row i]{fullShare.left} f
/-- Row `i` of the values, at the half share that is sent. -/
def vR (c : Dev nD) (i : ℕ) (f : S16x256x64.Idx → Elt F .bf16) : sProp 𝕄 := ((c : Thread nD τ).loc cc0_stg2_0) ↦[row i]{fullShare.left} f
/-- Row `i` of the buffer in which the neighbour's keys land. -/
def krR (c : Dev nD) (i : ℕ) (f : S16x256x64.Idx → Elt F .bf16) : sProp 𝕄 := ((c : Thread nD τ).loc cc0_scratch0) ↦[row i]{fullShare} f
/-- Row `i` of the buffer in which the neighbour's values land. -/
def vrR (c : Dev nD) (i : ℕ) (f : S16x256x64.Idx → Elt F .bf16) : sProp 𝕄 := ((c : Thread nD τ).loc cc0_scratch1) ↦[row i]{fullShare} f
/-- Row `i` of the result buffer. -/
def oR (c : Dev nD) (i : ℕ) (f : S16x256x64.Idx → Elt F .f32) : sProp 𝕄 := ((c : Thread nD τ).loc cc0_stg3_0) ↦[row i]{fullShare} f

/-- The queries may be kept in an invariant. -/
instance qP_storable (c : Dev nD) (f) : BI.Storable (upEmb : UEmb _ 𝕄) (qP (F := F) c f) := by unfold qP; infer_instance
/-- A row of the keys may be kept in an invariant. -/
instance kR_storable (c : Dev nD) (i f) : BI.Storable (upEmb : UEmb _ 𝕄) (kR (F := F) c i f) := by unfold kR; infer_instance
/-- A row of the values may be kept in an invariant. -/
instance vR_storable (c : Dev nD) (i f) : BI.Storable (upEmb : UEmb _ 𝕄) (vR (F := F) c i f) := by unfold vR; infer_instance
/-- A row of landed keys may be kept in an invariant. -/
instance krR_storable (c : Dev nD) (i f) : BI.Storable (upEmb : UEmb _ 𝕄) (krR (F := F) c i f) := by unfold krR; infer_instance
/-- A row of landed values may be kept in an invariant. -/
instance vrR_storable (c : Dev nD) (i f) : BI.Storable (upEmb : UEmb _ 𝕄) (vrR (F := F) c i f) := by unfold vrR; infer_instance
/-- A row of the result may be kept in an invariant. -/
instance oR_storable (c : Dev nD) (i f) : BI.Storable (upEmb : UEmb _ 𝕄) (oR (F := F) c i f) := by unfold oR; infer_instance

/-! ## The schedule -/

/-- Paid to `c`'s barrier cell by `xn c`: the rows of `xn c`'s landing buffers that `c` fills, and that `xn c`'s arrival cells are open. -/
def barX (c : Dev nD) : sProp 𝕄 :=
  bigSep (Finset.Ico 0 8) fun j => iprop((∃ f, krR (xn c) (base c + j) f) ∗ (∃ f, vrR (xn c) (base c + j) f)
    ∗ reached ER (dcell (xn c) 2 j) 0 ∗ reached ER (dcell (xn c) 3 j) 0)
/-- Paid to `c`'s barrier cell by `yn c`: the rows of `yn c`'s result that `c` fills, and that `yn c`'s arrival cells are open. -/
def barY (c : Dev nD) : sProp 𝕄 :=
  bigSep (Finset.Ico 0 8) fun j => iprop((∃ f, oR (yn c) (base c + j) f) ∗ reached ER (dcell (yn c) 5 j) 0)

/-- Paid to copy cell `j` of family `f` of device `c`. -/
def dpay (c : Dev nD) : ℕ → ℕ → sProp 𝕄
  | 0, j => kR c (base c + j) (KS c)
  | 1, j => vR c (base c + j) (VS c)
  | 2, j => krR c (base c + j) (KS (xn c))
  | 3, j => vrR c (base c + j) (VS (xn c))
  | 4, j => oR c (base c + j) (outC QS KS VS c)
  | _, j => oR c (base (yn c) + j) (outC QS KS VS (yn c))

/-- What the first neighbour pays may be kept in an invariant. -/
instance barX_storable (c : Dev nD) : BI.Storable (upEmb : UEmb _ 𝕄) (barX (F := F) c) := by unfold barX; infer_instance
/-- What the second neighbour pays may be kept in an invariant. -/
instance barY_storable (c : Dev nD) : BI.Storable (upEmb : UEmb _ 𝕄) (barY (F := F) c) := by unfold barY; infer_instance
/-- What a copy pays may be kept in an invariant. -/
instance dpay_storable (c : Dev nD) (f j : ℕ) : BI.Storable (upEmb : UEmb _ 𝕄) (dpay (F := F) QS KS VS c f j) := by
  unfold dpay; split <;> infer_instance

/-- The one round of every cell. -/
def sched : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => cred_ ((q.val - 4) / 8)
  payload g _ d := match g.2 with
    | .reg _ => if d then barX g.1.1 else barY g.1.1
    | .dma q => dpay QS KS VS g.1.1 ((q.val - 4) / 8) ((q.val - 4) % 8)
  amount_pos g _ _ _ := by
    rcases g with ⟨t, _ | q⟩
    · exact Nat.one_pos
    · show 0 < cred_ _; unfold cred_; split; exacts [cK_pos, cO_pos]

/-- Whatever is paid may be kept in an invariant. -/
instance sched_payload_storable (g : GSem nD τ sig) (r : ℕ) (d : Bool) : BI.Storable (upEmb : UEmb _ 𝕄) ((sched (F := F) QS KS VS).payload g r d) := by
  rcases g with ⟨t, _ | q⟩
  · show BI.Storable upEmb (if d then barX t.1 else barY t.1); split <;> infer_instance
  · show BI.Storable upEmb (dpay QS KS VS t.1 _ _); infer_instance

section Sched
variable (c : Dev nD)

/-- A barrier cell is paid twice, once by each neighbour. -/
theorem duties_bar : (sched QS KS VS).duties (barCell c) 0 = Finset.univ := by dsimp only [sched]; exact if_pos ⟨rfl, rfl⟩
/-- A copy cell is paid once. -/
theorem duties_dma (f j : ℕ) : (sched QS KS VS).duties (dcell c f j) 0 = {false} := by dsimp only [sched]; exact if_pos ⟨rfl, rfl⟩
/-- There is no second round. -/
theorem duties_later (g : GSem nD τ sig) : ∀ r, 1 ≤ r → (sched QS KS VS).duties g r = ∅ :=
  fun r hr => by dsimp only [sched]; exact if_neg fun h => by omega

/-- A barrier signal is of one. -/
theorem amount_bar (d : Bool) : (sched QS KS VS).amount (barCell c) 0 d = 1 := rfl
/-- A copy pays the credit of its row. -/
theorem amount_dma {f j : ℕ} (hf : f < 6) (hj : j < 8) (d : Bool) : (sched QS KS VS).amount (dcell c f j) 0 d = cred_ f := by
  show cred_ (((dsem f j).val - 4) / 8) = _; rw [dsem_val hf hj]; congr 1; omega

/-- A barrier's round sums to two. -/
theorem expect_bar : (sched QS KS VS).expect (barCell c) 0 = 2 := by
  unfold Schedule.expect Schedule.amountOf; rw [duties_bar]; rfl
/-- A copy cell's round sums to the credit of its row. -/
theorem expect_dma {f j : ℕ} (hf : f < 6) (hj : j < 8) : (sched QS KS VS).expect (dcell c f j) 0 = cred_ f := by
  unfold Schedule.expect Schedule.amountOf; rw [duties_dma, Finset.sum_singleton, amount_dma QS KS VS c hf hj]

/-- What a copy cell is paid, by family and row. -/
theorem payload_dma {f j : ℕ} (hf : f < 6) (hj : j < 8) (d : Bool) : (sched QS KS VS).payload (dcell c f j) 0 d = dpay QS KS VS c f j := by
  show dpay QS KS VS c (((dsem f j).val - 4) / 8) (((dsem f j).val - 4) % 8) = _
  rw [dsem_val hf hj, show (4 + 8 * f + j - 4) / 8 = f by omega, show (4 + 8 * f + j - 4) % 8 = j by omega]

/-- A copy cell's whole round hands over what its copy pays. -/
theorem rest_dma {f j : ℕ} (hf : f < 6) (hj : j < 8) :
    bigSep ((sched QS KS VS).duties (dcell c f j) 0 \ ∅) (fun u => (sched QS KS VS).payload (dcell c f j) 0 u) = dpay QS KS VS c f j := by
  rw [Finset.sdiff_empty, duties_dma, bigSep_singleton, payload_dma QS KS VS c hf hj]
/-- A barrier's whole round hands over what both neighbours pay. -/
theorem rest_bar :
    bigSep ((sched QS KS VS).duties (barCell c) 0 \ ∅) (fun u => (sched QS KS VS).payload (barCell c) 0 u) = iprop(barX c ∗ barY c) := by
  rw [Finset.sdiff_empty, duties_bar, show (Finset.univ : Finset Bool) = insert true {false} from rfl, bigSep_insert (by decide), bigSep_singleton]
  rfl

end Sched

/-! ## What a device owes; the levels -/

/-- A debt paid eight times, once per row, with the first `n` payments made. -/
def owing (t : ℕ → CellTallies nD τ sig Unit) (n : ℕ) : CellTallies nD τ sig Unit := ∑ j ∈ Finset.Ico n 8, t j

/-- The next payment comes off the debt. -/
theorem owing_step (t : ℕ → CellTallies nD τ sig Unit) {n : ℕ} (h : n < 8) : owing t n = owing t (n + 1) + t n := by
  unfold owing
  rw [show Finset.Ico n 8 = insert n (Finset.Ico (n + 1) 8) by ext x; simp only [Finset.mem_Ico, Finset.mem_insert]; omega,
    Finset.sum_insert (by rw [Finset.mem_Ico]; omega), add_comm]
/-- After eight payments nothing is owed. -/
theorem owing_done (t : ℕ → CellTallies nD τ sig Unit) : owing t 8 = 0 := by unfold owing; rw [Finset.Ico_self, Finset.sum_empty]

/-- The debt to the arrival cells of row `j` of `xn c`, and of `yn c`. -/
def tX (c : Dev nD) (j : ℕ) : CellTallies nD τ sig Unit := tallyAt (dcell (xn c) 3 j) () cK + tallyAt (dcell (xn c) 2 j) () cK
/-- The debt to the result arrival cell of row `j` of `yn c`. -/
def tY (c : Dev nD) (j : ℕ) : CellTallies nD τ sig Unit := tallyAt (dcell (yn c) 5 j) () cO

/-- What device `c` owes at launch. -/
def O₀ (c : Dev nD) : CellTallies nD τ sig Unit :=
  owing (tY c) 0 + owing (tX c) 0 + tallyAt (barCell (yn c)) () 1 + tallyAt (barCell (xn c)) () 1

/-- Only tensor cores are owed anything. -/
def L (g : GSem nD τ sig) : Finset Unit := if g.1.2 = .tc then {()} else ∅
/-- Staging and send cells at `0`, the barrier at `1`, key and value arrivals at `2`, result arrivals at `3`. -/
def lv (g : GSem nD τ sig) (_ : Unit) : ℕ := match g.2 with
  | .reg _ => 1
  | .dma q => if 20 ≤ q.val ∧ q.val < 36 then 2 else if 44 ≤ q.val then 3 else 0

/-- Other threads are owed nothing. -/
theorem L_of_ne (g : GSem nD τ sig) (h : g.1.2 ≠ .tc) : L g = ∅ := if_neg h
/-- A tensor core's cells are under the one index. -/
theorem L_tc (c : Dev nD) (sm : SemLoc sig) : L ((c : Thread nD τ), sm) = {()} := if_pos rfl

/-- Key and value arrivals are at level two. -/
theorem lv_arr (c : Dev nD) {f j : ℕ} (hf : f = 2 ∨ f = 3) (hj : j < 8) (u : Unit) : lv (dcell c f j) u = 2 := by
  show (if 20 ≤ (dsem f j).val ∧ (dsem f j).val < 36 then 2 else if 44 ≤ (dsem f j).val then 3 else 0) = 2
  rw [dsem_val (by omega) hj, if_pos (by omega)]
/-- Result arrivals are at level three. -/
theorem lv_res (c : Dev nD) {j : ℕ} (hj : j < 8) (u : Unit) : lv (dcell c 5 j) u = 3 := by
  show (if 20 ≤ (dsem 5 j).val ∧ (dsem 5 j).val < 36 then 2 else if 44 ≤ (dsem 5 j).val then 3 else 0) = 3
  rw [dsem_val (by omega) hj, if_neg (by omega), if_pos (by omega)]

/-- A debt is owed to some row's term. -/
theorem owing_pos {t : ℕ → CellTallies nD τ sig Unit} {n : ℕ} {g : GSem nD τ sig} {u : Unit} (h : 0 < owing t n g u) :
    ∃ j, j < 8 ∧ 0 < t j g u := by
  unfold owing at h
  rw [Finset.sum_apply, Finsupp.finset_sum_apply] at h
  obtain ⟨j, hj, hp⟩ := Finset.exists_ne_zero_of_sum_ne_zero (Nat.pos_iff_ne_zero.mp h)
  exact ⟨j, (Finset.mem_Ico.mp hj).2, Nat.pos_of_ne_zero hp⟩

/-- A debt at one cell is owed to that cell. -/
theorem tallyAt_pos {g g' : GSem nD τ sig} {u : Unit} {k : ℕ} (h : 0 < (tallyAt g () k : CellTallies nD τ sig Unit) g' u) : g' = g := by
  rw [tallyAt_apply] at h
  by_contra hn
  rw [if_neg (fun h' => hn h'.1)] at h
  exact Nat.lt_irrefl 0 h

/-- Owed to a result arrival cell of `yn c`. -/
theorem owingY_pos {c : Dev nD} {n : ℕ} {g : GSem nD τ sig} {u : Unit} (h : 0 < owing (tY c) n g u) : ∃ j, j < 8 ∧ g = dcell (yn c) 5 j := by
  obtain ⟨j, hj, hp⟩ := owing_pos h
  exact ⟨j, hj, tallyAt_pos hp⟩
/-- Owed to a key or value arrival cell of `xn c`. -/
theorem owingX_pos {c : Dev nD} {n : ℕ} {g : GSem nD τ sig} {u : Unit} (h : 0 < owing (tX c) n g u) :
    ∃ f j, (f = 2 ∨ f = 3) ∧ j < 8 ∧ g = dcell (xn c) f j := by
  obtain ⟨j, hj, hp⟩ := owing_pos h
  unfold tX at hp
  rw [Pi.add_apply, Finsupp.add_apply] at hp
  rcases Nat.eq_zero_or_pos ((tallyAt (dcell (xn c) 3 j) () cK : CellTallies nD τ sig Unit) g u) with h0 | h0
  · rw [h0, zero_add] at hp; exact ⟨2, j, .inl rfl, hj, tallyAt_pos hp⟩
  · exact ⟨3, j, .inr rfl, hj, tallyAt_pos h0⟩

/-- What is owed by a sum is owed by one of the two. -/
theorem add_pos_cases {A B : CellTallies nD τ sig Unit} {g : GSem nD τ sig} {u : Unit} (h : 0 < (A + B) g u) : 0 < A g u ∨ 0 < B g u := by
  rw [Pi.add_apply, Finsupp.add_apply] at h; omega

/-- What a device owes is owed to tensor cores, at a positive level. -/
theorem O₀_pos {c : Dev nD} {g : GSem nD τ sig} {u : Unit} (h : 0 < O₀ c g u) : u ∈ L g ∧ 0 < lv g u := by
  unfold O₀ at h
  rcases add_pos_cases h with h | h
  · rcases add_pos_cases h with h | h
    · rcases add_pos_cases h with h | h
      · obtain ⟨j, hj, rfl⟩ := owingY_pos h
        rw [L_tc, lv_res _ hj]; exact ⟨Finset.mem_singleton_self _, by decide⟩
      · obtain ⟨f, j, hf, hj, rfl⟩ := owingX_pos h
        rw [L_tc, lv_arr _ hf hj]; exact ⟨Finset.mem_singleton_self _, by decide⟩
    · rw [tallyAt_pos h, L_tc]; exact ⟨Finset.mem_singleton_self _, Nat.one_pos⟩
  · rw [tallyAt_pos h, L_tc]; exact ⟨Finset.mem_singleton_self _, Nat.one_pos⟩

/-- The barrier may be waited on while the copies to come are owed. -/
theorem mayWait_bar (c : Dev nD) :
    (levAts L lv : sProp 𝕄) ⊢ MayWait (c : Thread nD τ) (.reg barS) () (owing (tY c) 0 + owing (tX c) 0) :=
  MayOwe.of_cut (L := L) (lev := lv) 1 (fun p hp => by rw [Finset.mem_singleton.mp hp, L_tc]; exact Finset.mem_singleton_self _)
    (fun g u hg => by
      rcases add_pos_cases hg with h | h
      · obtain ⟨j, hj, rfl⟩ := owingY_pos h; rw [L_tc]; exact Finset.mem_singleton_self _
      · obtain ⟨f, j, hf, hj, rfl⟩ := owingX_pos h; rw [L_tc]; exact Finset.mem_singleton_self _)
    (fun p hp => by rw [Finset.mem_singleton.mp hp]; exact Nat.le_refl 1)
    (fun g u hg => by
      rcases add_pos_cases hg with h | h
      · obtain ⟨j, hj, rfl⟩ := owingY_pos h; rw [lv_res _ hj]; decide
      · obtain ⟨f, j, hf, hj, rfl⟩ := owingX_pos h; rw [lv_arr _ hf hj]; decide)

/-- A key or value arrival may be waited on while results are owed. -/
theorem mayWait_arr (c : Dev nD) {f j : ℕ} (hf : f = 2 ∨ f = 3) (hj : j < 8) (n : ℕ) :
    (levAts L lv : sProp 𝕄) ⊢ MayWait (c : Thread nD τ) (.dma (dsem f j)) () (owing (tY c) n) :=
  MayOwe.of_cut (L := L) (lev := lv) 2 (fun p hp => by rw [Finset.mem_singleton.mp hp, L_tc]; exact Finset.mem_singleton_self _)
    (fun g u hg => by obtain ⟨j, hj, rfl⟩ := owingY_pos hg; rw [L_tc]; exact Finset.mem_singleton_self _)
    (fun p hp => by rw [Finset.mem_singleton.mp hp]; exact (lv_arr c hf hj ()).le)
    (fun g u hg => by obtain ⟨j, hj, rfl⟩ := owingY_pos hg; rw [lv_res _ hj]; decide)

/-! ## The cells' invariants -/

/-- The barrier cells of all devices. -/
def barCells : Finset (GSem nD τ sig) := Finset.univ.image barCell
/-- The copy cells by device, family and row. -/
def dmaKeys : Finset (Dev nD × ℕ × ℕ) := Finset.univ ×ˢ (Finset.range 6 ×ˢ Finset.range 8)
/-- The copy cells of all devices. -/
def dmaCells : Finset (GSem nD τ sig) := dmaKeys.image fun k => dcell k.1 k.2.1 k.2.2

/-- Each device's barrier cell is one. -/
theorem mem_barCells (c : Dev nD) : barCell c ∈ barCells := Finset.mem_image_of_mem _ (Finset.mem_univ _)
/-- Each copy cell is one. -/
theorem mem_dmaCells (c : Dev nD) {f j : ℕ} (hf : f < 6) (hj : j < 8) : dcell c f j ∈ dmaCells :=
  Finset.mem_image.mpr ⟨(c, f, j), Finset.mem_product.mpr ⟨Finset.mem_univ _, Finset.mem_product.mpr ⟨Finset.mem_range.mpr hf, Finset.mem_range.mpr hj⟩⟩, rfl⟩

/-- Every cell's invariant, that the barriers' round is reached, and the levels: what every device may use at any time. -/
def recs (κ : GSem nD τ sig → ℕ) : sProp 𝕄 :=
  iprop((bigSep (barCells ∪ dmaCells) (fun g => cellInv ER (sched QS KS VS) (κ g) g)) ∗ (bigSep barCells fun g => reached ER g 0) ∗ levAts L lv)

/-- These facts may be used again and again. -/
instance recs_persistent (κ : GSem nD τ sig → ℕ) : BI.Persistent (recs QS KS VS κ) := by unfold recs; infer_instance

variable (κ : GSem nD τ sig → ℕ)

/-- A barrier cell's invariant is among them. -/
theorem inv_bar (c : Dev nD) : recs QS KS VS κ ⊢ cellInv ER (sched QS KS VS) (κ (barCell c)) (barCell c) :=
  (BI.sep_and.trans and_elimL).trans
    (bigSep_elim (Φ := fun g => cellInv ER (sched QS KS VS) (κ g) g) (Finset.mem_union_left _ (mem_barCells c)))
/-- A copy cell's invariant is among them. -/
theorem inv_dma (c : Dev nD) {f j : ℕ} (hf : f < 6) (hj : j < 8) :
    recs QS KS VS κ ⊢ cellInv ER (sched QS KS VS) (κ (dcell c f j)) (dcell c f j) :=
  (BI.sep_and.trans and_elimL).trans
    (bigSep_elim (Φ := fun g => cellInv ER (sched QS KS VS) (κ g) g) (Finset.mem_union_right _ (mem_dmaCells c hf hj)))
/-- That a barrier's round is reached is among them. -/
theorem reached_bar (c : Dev nD) : recs QS KS VS κ ⊢ reached ER (barCell c) 0 :=
  (BI.sep_and.trans and_elimR).trans
    ((BI.sep_and.trans and_elimL).trans (bigSep_elim (Φ := fun g => (reached ER g 0 : sProp 𝕄)) (mem_barCells c)))
/-- The levels are among them. -/
theorem levs : recs QS KS VS κ ⊢ levAts L lv := by
  unfold recs
  iintro ⟨-, -, H⟩
  iexact H

end Cert.AttnProof
-- ==== Proof.Steps.lean ====
/-
One lemma per kind of statement of the body: the copies, the waits, the head's loads and store. Each is stated for a row
`j < 8` and for any program after it.
-/
module

public import proofs.«01_k».proof.Proof.Common
public import Idealize.ShloMosaic.Lib.ViewIndex

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (QS KS VS : Dev nD → S16x256x64.Idx → Elt F .bf16) (κ : GSem nD τ sig → ℕ)

/-- The staged queries. -/
abbrev qM : Memref sig .tc .vmem S16x256x64 .bf16 := Memref.whole cc0_stg0_0
/-- The staged keys. -/
abbrev kM : Memref sig .tc .vmem S16x256x64 .bf16 := Memref.whole cc0_stg1_0
/-- The staged values. -/
abbrev vM : Memref sig .tc .vmem S16x256x64 .bf16 := Memref.whole cc0_stg2_0
/-- The result buffer. -/
abbrev oM : Memref sig .tc .vmem S16x256x64 .f32 := Memref.whole cc0_stg3_0
/-- The buffer in which keys land. -/
abbrev krM : Memref sig .tc .vmem S16x256x64 .bf16 := Memref.whole cc0_scratch0
/-- The buffer in which values land. -/
abbrev vrM : Memref sig .tc .vmem S16x256x64 .bf16 := Memref.whole cc0_scratch1

/-- The rectangle of row `i`. -/
abbrev rect (i : ℕ) (inb : ∀ a, (![i, 0, 0] : Fin 3 → ℕ) a + S1x256x64.size a ≤ S16x256x64.size a) : Rect S16x256x64 :=
  Rect.unit (s := S16x256x64) ![i, 0, 0] S1x256x64.size inb

/-! ## Copies -/

/-- A copy of one row: it pays send cell `j` of family `f` here and arrival cell `j` of family `f'` on device `n`. -/
theorem wp_copy {α : Type} {Q : α → sProp 𝕄} {k : PUnit → Prog (TpuEff nD τ sig (Elt F) Λ₀ .tc) α} {e : EltTy}
    (c n : Dev nD) {f f' j : ℕ} (hf : f < 6) (hf' : f' < 6) (hj : j < 8) (hff : cred_ f' = cred_ f)
    {src dst : Memref sig .tc .vmem S1x256x64 e} {hsc : dst.view.ref.isScScratch = false}
    {hsrc : src.view.WordExact} {hdst : dst.view.WordExact}
    {hsem : DmaTarget.Typed .vmem (.dma (dsem f' j)) (.remote (Dev.tc n : Thread nD τ) dst (.dma (dsem f j)) hsc)}
    {q : PosShare TreeShare} (fs : Buf (Elt F) (src.view.loc (c : Thread nD τ))) (fd : Buf (Elt F) (dst.view.loc (n : Thread nD τ)))
    (hN : dst.view.dmaCredit = cred_ f)
    (hpay₁ : (src.view.loc (c : Thread nD τ) ↦[src.view.set]{q} fs) ⊢ dpay QS KS VS c f j)
    (hpay₂ : (dst.view.loc (n : Thread nD τ) ↦[dst.view.set]{fullShare} (dst.view.write (Elt F) fd (src.view.read (Elt F) fs) Finset.univ))
      ⊢ dpay QS KS VS n f' j)
    (O : CellTallies nD τ sig Unit) (W : Waits sig Unit) :
    iprop(recs QS KS VS κ ∗ (src.view.loc (c : Thread nD τ) ↦[src.view.set]{q} fs) ∗ (dst.view.loc (n : Thread nD τ) ↦[dst.view.set]{fullShare} fd)
        ∗ owes (c : Thread nD τ) (O + tallyAt (dcell n f' j) () (cred_ f)) W
        ∗ dutyTok ER (dcell c f j) 0 false ∗ reached ER (dcell c f j) 0 ∗ dutyTok ER (dcell n f' j) 0 false ∗ reached ER (dcell n f' j) 0)
      ⊢ iprop(((cred (tallyAt (dcell c f j) () (cred_ f)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (dsem f j)) hsc) (.dma (dsem f' j)) hsrc hdst hsem) k) Q) := by
  refine BIBase.Entails.trans ?_ (Rounds.wp_send_pointsTo (k := k) (Q := Q) 𝒱₀ ER (sched QS KS VS) (c : Thread nD τ) none (c' := (n : Thread nD τ))
    (src := src) (dst := dst) (sS := .dma (dsem f j)) (sem := .dma (dsem f' j)) (hsc := hsc) (hsrc := hsrc) (hdst := hdst) (hsem := hsem)
    (κ₁ := κ (dcell c f j)) (κ₂ := κ (dcell n f' j)) (q := q) (fs := fs)
    (r₁ := 0) (r₂ := 0) (d₁ := false) (d₂ := false) (fd := fd)
    (by rw [duties_dma]; exact Finset.mem_singleton_self _) (by rw [duties_dma]; exact Finset.mem_singleton_self _)
    () () (cred_ f) hN (amount_dma QS KS VS c hf hj false) ((amount_dma QS KS VS n hf' hj false).trans hff) O rfl (W := W)
    (by rw [payload_dma QS KS VS c hf hj]; exact hpay₁) (by rw [payload_dma QS KS VS n hf' hj]; exact hpay₂)
    (Es := Set.univ))
  iintro ⟨#Hr, Hs, Hd, HO, Ht1, Hr1, Ht2, Hr2⟩
  isplitr; · iapply (inv_dma QS KS VS κ c hf hj); iexact Hr
  isplitr; · iapply (inv_dma QS KS VS κ n hf' hj); iexact Hr
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

/-- The copy of a key row to `xn c`. -/
theorem wp_sendK {α : Type} {Q : α → sProp 𝕄} {k : PUnit → Prog (TpuEff nD τ sig (Elt F) Λ₀ .tc) α}
    (c n : Dev nD) (hn : n = xn c) (j : ℕ) (hj : j < 8) (off : Fin 3 → ℕ) (hoff : off = ![base c + j, 0, 0])
    {inb inb' : ∀ a, off a + S1x256x64.size a ≤ S16x256x64.size a} {hsc hsrc hdst hsem}
    (fn : S16x256x64.Idx → Elt F .bf16) (O : CellTallies nD τ sig Unit) (W : Waits sig Unit) :
    iprop(recs QS KS VS κ ∗ kR c (base c + j) (KS c) ∗ krR (xn c) (base c + j) fn
        ∗ owes (c : Thread nD τ) (O + tallyAt (dcell (xn c) 2 j) () cK) W
        ∗ dutyTok ER (dcell c 0 j) 0 false ∗ reached ER (dcell c 0 j) 0 ∗ dutyTok ER (dcell (xn c) 2 j) 0 false ∗ reached ER (dcell (xn c) 2 j) 0)
      ⊢ iprop(((cred (tallyAt (dcell c 0 j) () cK) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (kM.slice (Rect.unit (s := S16x256x64) off S1x256x64.size inb) (fun _ => rfl))
                (.remote (Dev.tc n : Thread nD τ) (krM.slice (Rect.unit (s := S16x256x64) off S1x256x64.size inb') (fun _ => rfl)) (.dma (dsem 0 j)) hsc)
                (.dma (dsem 2 j)) hsrc hdst hsem) k) Q) := by
  subst hn hoff
  have hs : (kM.slice (rect (base c + j) inb) (fun _ => rfl)).view.set = row (base c + j) := (View.set_slice_whole _ _).trans (rect_row _ inb)
  have hd : (krM.slice (rect (base c + j) inb') (fun _ => rfl)).view.set = row (base c + j) := (View.set_slice_whole _ _).trans (rect_row _ inb')
  have key := wp_copy QS KS VS κ (k := k) (Q := Q) c (xn c) (f := 0) (f' := 2) (by decide) (by decide) hj rfl
    (src := kM.slice (rect (base c + j) inb) (fun _ => rfl)) (dst := krM.slice (rect (base c + j) inb') (fun _ => rfl))
    (hsc := hsc) (hsrc := hsrc) (hdst := hdst) (hsem := hsem) (q := fullShare.left) (KS c) fn rfl
    (by rw [hs]; exact BI.Entails.refl _)
    (by
      show _ ⊢ krR (xn c) (base (xn c) + j) (KS (xn (xn c)))
      rw [base_xn, xn_xn, hd]
      refine Entails.of_eq (pointsTo_congr fun i hi => ?_)
      rw [← hd] at hi
      obtain ⟨x, -, rfl⟩ := Finset.mem_map.mp hi
      rw [View.write_emb_of_mem _ _ (Finset.mem_univ _)]
      rfl) O W
  rw [hs, hd] at key
  exact key

/-- The copy of a value row to `xn c`. -/
theorem wp_sendV {α : Type} {Q : α → sProp 𝕄} {k : PUnit → Prog (TpuEff nD τ sig (Elt F) Λ₀ .tc) α}
    (c n : Dev nD) (hn : n = xn c) (j : ℕ) (hj : j < 8) (off : Fin 3 → ℕ) (hoff : off = ![base c + j, 0, 0])
    {inb inb' : ∀ a, off a + S1x256x64.size a ≤ S16x256x64.size a} {hsc hsrc hdst hsem}
    (fn : S16x256x64.Idx → Elt F .bf16) (O : CellTallies nD τ sig Unit) (W : Waits sig Unit) :
    iprop(recs QS KS VS κ ∗ vR c (base c + j) (VS c) ∗ vrR (xn c) (base c + j) fn
        ∗ owes (c : Thread nD τ) (O + tallyAt (dcell (xn c) 3 j) () cK) W
        ∗ dutyTok ER (dcell c 1 j) 0 false ∗ reached ER (dcell c 1 j) 0 ∗ dutyTok ER (dcell (xn c) 3 j) 0 false ∗ reached ER (dcell (xn c) 3 j) 0)
      ⊢ iprop(((cred (tallyAt (dcell c 1 j) () cK) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vM.slice (Rect.unit (s := S16x256x64) off S1x256x64.size inb) (fun _ => rfl))
                (.remote (Dev.tc n : Thread nD τ) (vrM.slice (Rect.unit (s := S16x256x64) off S1x256x64.size inb') (fun _ => rfl)) (.dma (dsem 1 j)) hsc)
                (.dma (dsem 3 j)) hsrc hdst hsem) k) Q) := by
  subst hn hoff
  have hs : (vM.slice (rect (base c + j) inb) (fun _ => rfl)).view.set = row (base c + j) := (View.set_slice_whole _ _).trans (rect_row _ inb)
  have hd : (vrM.slice (rect (base c + j) inb') (fun _ => rfl)).view.set = row (base c + j) := (View.set_slice_whole _ _).trans (rect_row _ inb')
  have key := wp_copy QS KS VS κ (k := k) (Q := Q) c (xn c) (f := 1) (f' := 3) (by decide) (by decide) hj rfl
    (src := vM.slice (rect (base c + j) inb) (fun _ => rfl)) (dst := vrM.slice (rect (base c + j) inb') (fun _ => rfl))
    (hsc := hsc) (hsrc := hsrc) (hdst := hdst) (hsem := hsem) (q := fullShare.left) (VS c) fn rfl
    (by rw [hs]; exact BI.Entails.refl _)
    (by
      show _ ⊢ vrR (xn c) (base (xn c) + j) (VS (xn (xn c)))
      rw [base_xn, xn_xn, hd]
      refine Entails.of_eq (pointsTo_congr fun i hi => ?_)
      rw [← hd] at hi
      obtain ⟨x, -, rfl⟩ := Finset.mem_map.mp hi
      rw [View.write_emb_of_mem _ _ (Finset.mem_univ _)]
      rfl) O W
  rw [hs, hd] at key
  exact key

/-- The copy of a result row to `yn c`. -/
theorem wp_sendO {α : Type} {Q : α → sProp 𝕄} {k : PUnit → Prog (TpuEff nD τ sig (Elt F) Λ₀ .tc) α}
    (c n : Dev nD) (hn : n = yn c) (j : ℕ) (hj : j < 8) (off : Fin 3 → ℕ) (hoff : off = ![base c + j, 0, 0])
    {inb inb' : ∀ a, off a + S1x256x64.size a ≤ S16x256x64.size a} {hsc hsrc hdst hsem}
    (fn : S16x256x64.Idx → Elt F .f32) (O : CellTallies nD τ sig Unit) (W : Waits sig Unit) :
    iprop(recs QS KS VS κ ∗ oR c (base c + j) (outC QS KS VS c) ∗ oR (yn c) (base c + j) fn
        ∗ owes (c : Thread nD τ) (O + tallyAt (dcell (yn c) 5 j) () cO) W
        ∗ dutyTok ER (dcell c 4 j) 0 false ∗ reached ER (dcell c 4 j) 0 ∗ dutyTok ER (dcell (yn c) 5 j) 0 false ∗ reached ER (dcell (yn c) 5 j) 0)
      ⊢ iprop(((cred (tallyAt (dcell c 4 j) () cO) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S16x256x64) off S1x256x64.size inb) (fun _ => rfl))
                (.remote (Dev.tc n : Thread nD τ) (oM.slice (Rect.unit (s := S16x256x64) off S1x256x64.size inb') (fun _ => rfl)) (.dma (dsem 4 j)) hsc)
                (.dma (dsem 5 j)) hsrc hdst hsem) k) Q) := by
  subst hn hoff
  have hs : (oM.slice (rect (base c + j) inb) (fun _ => rfl)).view.set = row (base c + j) := (View.set_slice_whole _ _).trans (rect_row _ inb)
  have key := wp_copy QS KS VS κ (k := k) (Q := Q) c (yn c) (f := 4) (f' := 5) (by decide) (by decide) hj rfl
    (src := oM.slice (rect (base c + j) inb) (fun _ => rfl)) (dst := oM.slice (rect (base c + j) inb') (fun _ => rfl))
    (hsc := hsc) (hsrc := hsrc) (hdst := hdst) (hsem := hsem) (q := fullShare) (outC QS KS VS c) fn rfl
    (by rw [hs]; exact BI.Entails.refl _)
    (by
      show _ ⊢ oR (yn c) (base (yn (yn c)) + j) (outC QS KS VS (yn (yn c)))
      rw [yn_yn, hs]
      refine Entails.of_eq (pointsTo_congr fun i hi => ?_)
      rw [← hs] at hi
      obtain ⟨x, -, rfl⟩ := Finset.mem_map.mp hi
      rw [View.write_emb_of_mem _ _ (Finset.mem_univ _)]
      rfl) O W
  rw [hs] at key
  exact key

/-! ## Waits -/

/-- The wait on a copy cell: what was paid to it comes with its credit. -/
theorem wp_wait {α : Type} {Q : α → sProp 𝕄} {k : PUnit → Prog (TpuEff nD τ sig (Elt F) Λ₀ .tc) α}
    {sp sp' : Space} {s s' : Shape} {e e' : EltTy} {κ' : Kind}
    (c : Dev nD) {f j : ℕ} (hf : f < 6) (hj : j < 8)
    {src : Memref sig .tc sp' s' e'} {dst : Memref sig κ' sp s e} {hsrc : src.view.WordExact} {hdst : dst.view.WordExact}
    (hN : dst.view.dmaCredit = cred_ f) (O : CellTallies nD τ sig Unit) (W : Waits sig Unit)
    (hmay : (levAts L lv : sProp 𝕄) ⊢ MayWait (c : Thread nD τ) (.dma (dsem f j)) () O) :
    iprop(recs QS KS VS κ ∗ cred (tallyAt (dcell c f j) () (cred_ f)) ∗ owes (c : Thread nD τ) O W ∗ atPos ER (dcell c f j) 0 ∅ 0)
      ⊢ iprop((((∃ W', owes (c : Thread nD τ) O W') ∗ atPos ER (dcell c f j) 1 ∅ 0 ∗ dpay QS KS VS c f j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dsem f j) src dst hsrc hdst) k) Q) := by
  iintro ⟨#Hr, Hc, HO, Hat⟩ Hk
  iapply (Rounds.wp_wait_rest_token 𝒱₀ ER (sched QS KS VS) (c : Thread nD τ) none (κ := κ (dcell c f j))
      (wpE_waitDma2_eq 𝒱₀ (c : Thread nD τ) none Set.univ) (Set.mem_univ _) () (O := O) (W := W) (R := 0) (m := 0) (T := ∅)
      (by rw [Nat.zero_add, expect_dma QS KS VS c hf hj, hN])) $$ [Hc HO Hat]
  · isplitr; · iapply (inv_dma QS KS VS κ c hf hj); iexact Hr
    isplitl [Hc]; · rw [hN]; iexact Hc
    isplitl [HO]; · iexact HO
    isplitr; · iapply hmay; iapply (levs QS KS VS κ); iexact Hr
    iexact Hat
  iintro ⟨HO, Hat, -, Hpay⟩
  iapply Hk
  isplitl [HO]; · iexists _; iexact HO
  isplitl [Hat]; · iexact Hat
  iapply (Entails.of_eq (rest_dma QS KS VS c hf hj)); iexact Hpay

/-- Who owes nothing may wait for anything. -/
theorem mayWait_none (c : Dev nD) (sm : SemLoc sig) : (levAts L lv : sProp 𝕄) ⊢ MayWait (c : Thread nD τ) sm () 0 := by
  rw [MayWait_zero]; iintro -; iempintro

/-! ## One head -/

/-- An element of row `i`'s rectangle by coordinates. -/
theorem emb_row (i : ℕ) (hi : i < 16) (inb : ∀ a, (![i, 0, 0] : Fin 3 → ℕ) a + S1x256x64.size a ≤ S16x256x64.size a) (x : S1x256x64.Idx) :
    (rect i inb).emb x = ix16 ⟨i, hi⟩ (x 1) (x 2) :=
  Shape.idx3_ext (by show i + 1 * (x 0).val = i; have := (x 0).isLt; simp at this; omega)
    (by show 0 + 1 * (x 1).val = (x 1).val; omega) (by show 0 + 1 * (x 2).val = (x 2).val; omega)

/-- An index of one row from its coordinates. -/
theorem ix1_eta (x : S1x256x64.Idx) : ix1 (x 1) (x 2) = x :=
  Shape.idx3_ext (by show 0 = (x 0).val; have := (x 0).isLt; simp at this; omega) rfl rfl

section Head
variable (i : ℕ) (hi : i < 16) (inb : ∀ a, (![i, 0, 0] : Fin 3 → ℕ) a + S1x256x64.size a ≤ S16x256x64.size a)

/-- A load of row `i` of the queries. -/
theorem read_q (f : S16x256x64.Idx → Elt F .bf16) : (qM.access (rect i inb)).read (Elt F) f = rowOf f ⟨i, hi⟩ :=
  funext fun x => congrArg f (emb_row i hi inb x)
/-- A load of row `i` of the keys. -/
theorem read_k (f : S16x256x64.Idx → Elt F .bf16) : (kM.access (rect i inb)).read (Elt F) f = rowOf f ⟨i, hi⟩ :=
  funext fun x => congrArg f (emb_row i hi inb x)
/-- A load of row `i` of the values. -/
theorem read_v (f : S16x256x64.Idx → Elt F .bf16) : (vM.access (rect i inb)).read (Elt F) f = rowOf f ⟨i, hi⟩ :=
  funext fun x => congrArg f (emb_row i hi inb x)
/-- A load of row `i` of the landed keys. -/
theorem read_kr (f : S16x256x64.Idx → Elt F .bf16) : (krM.access (rect i inb)).read (Elt F) f = rowOf f ⟨i, hi⟩ :=
  funext fun x => congrArg f (emb_row i hi inb x)
/-- A load of row `i` of the landed values. -/
theorem read_vr (f : S16x256x64.Idx → Elt F .bf16) : (vrM.access (rect i inb)).read (Elt F) f = rowOf f ⟨i, hi⟩ :=
  funext fun x => congrArg f (emb_row i hi inb x)

/-- The store of a head's result makes its row hold what `outC` names. -/
theorem stored_row (c : Dev nD) (f : S16x256x64.Idx → Elt F .f32) (w : FVec F S1x256x64 .f32)
    (hw : w = headFn (rowOf (QS c) ⟨i, hi⟩) (rowOf (KS c) ⟨i, hi⟩) (rowOf (KS (xn c)) ⟨i, hi⟩) (rowOf (VS c) ⟨i, hi⟩) (rowOf (VS (xn c)) ⟨i, hi⟩)) :
    ∀ x ∈ row i, (oM.access (rect i inb)).write (Elt F) f w Finset.univ x = outC QS KS VS c x := by
  intro x hx
  have hs : (oM.access (rect i inb)).set = row i := (View.set_slice_whole _ _).trans (rect_row _ inb)
  rw [← hs] at hx
  obtain ⟨y, -, rfl⟩ := Finset.mem_map.mp hx
  rw [View.write_emb_of_mem _ _ (Finset.mem_univ _)]
  show w y = outC QS KS VS c ((rect i inb).emb y)
  rw [emb_row i hi inb y, hw]
  show _ = headFn _ _ _ _ _ (ix1 (y 1) (y 2))
  rw [ix1_eta]
  rfl

end Head

/-! ## The phases of the body, one row at a time -/

/-- Sending: rows `n ≤ j < 8` still to send, rows `j < n` sent. -/
def sendTodo (c : Dev nD) (j : ℕ) : sProp 𝕄 :=
  iprop(kR c (base c + j) (KS c) ∗ vR c (base c + j) (VS c)
    ∗ (dutyTok ER (dcell c 0 j) 0 false ∗ reached ER (dcell c 0 j) 0 ∗ dutyTok ER (dcell (xn c) 2 j) 0 false)
    ∗ (dutyTok ER (dcell c 1 j) 0 false ∗ reached ER (dcell c 1 j) 0 ∗ dutyTok ER (dcell (xn c) 3 j) 0 false)
    ∗ (∃ f, krR (xn c) (base c + j) f) ∗ (∃ f, vrR (xn c) (base c + j) f)
    ∗ reached ER (dcell (xn c) 2 j) 0 ∗ reached ER (dcell (xn c) 3 j) 0)
/-- A sent row: its two sends may be waited for. -/
def sendDone (c : Dev nD) (j : ℕ) : sProp 𝕄 :=
  iprop(cred (tallyAt (dcell c 0 j) () cK) ∗ cred (tallyAt (dcell c 1 j) () cK))
/-- The sending with `n` rows sent. -/
def sendSt (c : Dev nD) (n : ℕ) : sProp 𝕄 :=
  iprop((∃ W, owes (c : Thread nD τ) (owing (tY c) 0 + owing (tX c) n) W)
    ∗ bigSep (Finset.Ico n 8) (sendTodo KS VS c) ∗ bigSep (Finset.range n) (sendDone (F := F) c))

/-- One row's keys and values are sent. -/
theorem send_step {α : Type} {Q : α → sProp 𝕄} {k : PUnit → Prog (TpuEff nD τ sig (Elt F) Λ₀ .tc) α}
    (c n n' : Dev nD) (hn : n = xn c) (hn' : n' = xn c) (j : ℕ) (hj : j < 8) (off : Fin 3 → ℕ) (hoff : off = ![base c + j, 0, 0])
    {inb inb' inb₂ inb₂' : ∀ a, off a + S1x256x64.size a ≤ S16x256x64.size a} {hsc hsrc hdst hsem hsc' hsrc' hdst' hsem'} :
    iprop(recs QS KS VS κ ∗ sendSt KS VS c j)
      ⊢ iprop((sendSt KS VS c (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (kM.slice (Rect.unit (s := S16x256x64) off S1x256x64.size inb) (fun _ => rfl))
                (.remote (Dev.tc n : Thread nD τ) (krM.slice (Rect.unit (s := S16x256x64) off S1x256x64.size inb') (fun _ => rfl)) (.dma (dsem 0 j)) hsc)
                (.dma (dsem 2 j)) hsrc hdst hsem) fun _ =>
              .op (.enqueueDma (vM.slice (Rect.unit (s := S16x256x64) off S1x256x64.size inb₂) (fun _ => rfl))
                (.remote (Dev.tc n' : Thread nD τ) (vrM.slice (Rect.unit (s := S16x256x64) off S1x256x64.size inb₂') (fun _ => rfl)) (.dma (dsem 1 j)) hsc')
                (.dma (dsem 3 j)) hsrc' hdst' hsem') k) Q) := by
  unfold sendSt
  rw [bigSep_Ico_succ_bot hj, bigSep_range_succ, owing_step (tX c) hj]
  iintro ⟨#Hr, ⟨%W, HO⟩, Hj, Hd⟩ Hk
  icases Hj with ⟨Hj, Hrest⟩
  unfold sendTodo
  icases Hj with ⟨HkR, HvR, ⟨Ht0, Hr0, Ht2⟩, ⟨Ht1, Hr1, Ht3⟩, ⟨%f, Hkr⟩, ⟨%f', Hvr⟩, Hr2, Hr3⟩
  iapply (wp_sendK QS KS VS κ c n hn j hj off hoff f (owing (tY c) 0 + owing (tX c) (j + 1) + tallyAt (dcell (xn c) 3 j) () cK) W)
    $$ [HkR Hkr HO Ht0 Hr0 Ht2 Hr2]
  · isplitr; · iexact Hr
    isplitl [HkR]; · iexact HkR
    isplitl [Hkr]; · iexact Hkr
    isplitl [HO]; · unfold tX; rw [← add_assoc, ← add_assoc]; iexact HO
    isplitl [Ht0]; · iexact Ht0
    isplitl [Hr0]; · iexact Hr0
    isplitl [Ht2] <;> iassumption
  iintro ⟨Hc0, HO⟩
  iapply (wp_sendV QS KS VS κ c n' hn' j hj off hoff f' (owing (tY c) 0 + owing (tX c) (j + 1)) W)
    $$ [HvR Hvr HO Ht1 Hr1 Ht3 Hr3]
  · isplitr; · iexact Hr
    isplitl [HvR]; · iexact HvR
    isplitl [Hvr]; · iexact Hvr
    isplitl [HO]; · iexact HO
    isplitl [Ht1]; · iexact Ht1
    isplitl [Hr1]; · iexact Hr1
    isplitl [Ht3] <;> iassumption
  iintro ⟨Hc1, HO⟩
  iapply Hk
  isplitl [HO]; · iexists W; iexact HO
  isplitl [Hrest]; · iexact Hrest
  isplitl [Hc0 Hc1]
  · unfold sendDone; isplitl [Hc0] <;> iassumption
  iexact Hd

/-- The heads: rows `n ≤ j < 8` still to compute, rows `j < n` computed and on their way to `yn c`. -/
def headTodo (c : Dev nD) (j : ℕ) : sProp 𝕄 :=
  iprop((cred (tallyAt (dcell c 2 j) () cK) ∗ atPos ER (dcell c 2 j) 0 ∅ 0) ∗ (cred (tallyAt (dcell c 3 j) () cK) ∗ atPos ER (dcell c 3 j) 0 ∅ 0)
    ∗ (∃ f, oR c (base c + j) f) ∗ (dutyTok ER (dcell c 4 j) 0 false ∗ reached ER (dcell c 4 j) 0 ∗ dutyTok ER (dcell (yn c) 5 j) 0 false)
    ∗ (∃ f, oR (yn c) (base c + j) f) ∗ reached ER (dcell (yn c) 5 j) 0)
/-- A computed row: the landed keys and values are in hand, and its send may be waited for. -/
def headDone (c : Dev nD) (j : ℕ) : sProp 𝕄 :=
  iprop(krR c (base c + j) (KS (xn c)) ∗ vrR c (base c + j) (VS (xn c)) ∗ atPos ER (dcell c 2 j) 1 ∅ 0 ∗ atPos ER (dcell c 3 j) 1 ∅ 0
    ∗ cred (tallyAt (dcell c 4 j) () cO))
/-- The heads with `n` of them computed. -/
def headSt (c : Dev nD) (n : ℕ) : sProp 𝕄 :=
  iprop((∃ W, owes (c : Thread nD τ) (owing (tY c) n) W) ∗ (qP c (QS c) ∗ kW c (KS c) ∗ vW c (VS c))
    ∗ bigSep (Finset.Ico n 8) (headTodo (F := F) c) ∗ bigSep (Finset.range n) (headDone KS VS c))

/-- One head: its keys and values are waited for, the row is computed, stored and sent. -/
theorem head_step {α : Type} {Q : α → sProp 𝕄} {k : PUnit → Prog (TpuEff nD τ sig (Elt F) Λ₀ .tc) α}
    {spa spb : Space} {sa sb : Shape} {ea eb : EltTy} {κa κb : Kind}
    {spc spd : Space} {sc sd : Shape} {ec ed : EltTy}
    (c n : Dev nD) (hn : n = yn c) (j : ℕ) (hj : j < 8) (off off' : Fin 3 → ℕ) (hoff : off = ![base c + j, 0, 0]) (hoff' : off' = ![base c + j, 0, 0])
    {srca : Memref sig .tc spc sc ec} {dsta : Memref sig κa spa sa ea} {hsrca : srca.view.WordExact} {hdsta : dsta.view.WordExact}
    (hNa : dsta.view.dmaCredit = cK)
    {srcb : Memref sig .tc spd sd ed} {dstb : Memref sig κb spb sb eb} {hsrcb : srcb.view.WordExact} {hdstb : dstb.view.WordExact}
    (hNb : dstb.view.dmaCredit = cK)
    (P : Vec F S1x256x64 .bf16 → Vec F S1x256x64 .bf16 → Vec F S1x256x64 .bf16 → Vec F S1x256x64 .bf16 → Vec F S1x256x64 .bf16 → FVec F S1x256x64 .f32)
    (hP : P = headFn)
    {i₁ i₂ i₃ i₄ i₅ i₆ i₇ : ∀ a, off a + S1x256x64.size a ≤ S16x256x64.size a}
    {inb inb' : ∀ a, off' a + S1x256x64.size a ≤ S16x256x64.size a}
    {h₁ h₂ h₃ h₄ h₅ h₆ h₇ hm hsc hsrc hdst hsem} :
    iprop(recs QS KS VS κ ∗ headSt QS KS VS c j)
      ⊢ iprop((headSt QS KS VS c (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (dsem 2 j) srca dsta hsrca hdsta) fun _ =>
              .op (.waitDma2 (dsem 3 j) srcb dstb hsrcb hdstb) fun _ =>
              .op (.load qM (Rect.unit (s := S16x256x64) off S1x256x64.size i₁).toLoadRect h₁) fun q =>
              .op (.load kM (Rect.unit (s := S16x256x64) off S1x256x64.size i₂).toLoadRect h₂) fun kk =>
              .op (.load krM (Rect.unit (s := S16x256x64) off S1x256x64.size i₃).toLoadRect h₃) fun kr =>
              .op (.load vM (Rect.unit (s := S16x256x64) off S1x256x64.size i₄).toLoadRect h₄) fun v =>
              .op (.load vrM (Rect.unit (s := S16x256x64) off S1x256x64.size i₅).toLoadRect h₅) fun vr =>
              .op (.load oM (Rect.unit (s := S16x256x64) off S1x256x64.size i₆).toLoadRect h₆) fun _ =>
              .op (.store oM (Rect.unit (s := S16x256x64) off S1x256x64.size i₇) (P q kk kr v vr) Finset.univ h₇ hm) fun _ =>
              .op (.enqueueDma (oM.slice (Rect.unit (s := S16x256x64) off' S1x256x64.size inb) (fun _ => rfl))
                (.remote (Dev.tc n : Thread nD τ) (oM.slice (Rect.unit (s := S16x256x64) off' S1x256x64.size inb') (fun _ => rfl)) (.dma (dsem 4 j)) hsc)
                (.dma (dsem 5 j)) hsrc hdst hsem) k) Q) := by
  subst hoff hP
  have hi : base c + j < 16 := by rcases base_cases c with h | h <;> omega
  unfold headSt
  rw [bigSep_Ico_succ_bot hj, bigSep_range_succ, owing_step (tY c) hj]
  iintro ⟨#Hr, ⟨%W, HO⟩, ⟨Hq, Hk_, Hv⟩, Hj, Hd⟩ Hk
  icases Hj with ⟨Hj, Hrest⟩
  unfold headTodo
  icases Hj with ⟨⟨Hc2, Hat2⟩, ⟨Hc3, Hat3⟩, ⟨%fo, Ho⟩, ⟨Ht4, Hr4, Ht5⟩, ⟨%fn, Hon⟩, Hr5⟩
  iapply (wp_wait QS KS VS κ c (f := 2) (by decide) hj hNa (owing (tY c) (j + 1) + tY c j) W
    (by rw [← owing_step (tY c) hj]; exact mayWait_arr c (.inl rfl) hj j)) $$ [Hc2 HO Hat2]
  · isplitr; · iexact Hr
    isplitl [Hc2]; · iexact Hc2
    isplitl [HO] <;> iassumption
  iintro ⟨⟨%W2, HO⟩, Hat2, Hkr⟩
  iapply (wp_wait QS KS VS κ c (f := 3) (by decide) hj hNb (owing (tY c) (j + 1) + tY c j) W2
    (by rw [← owing_step (tY c) hj]; exact mayWait_arr c (.inr rfl) hj j)) $$ [Hc3 HO Hat3]
  · isplitr; · iexact Hr
    isplitl [Hc3]; · iexact Hc3
    isplitl [HO] <;> iassumption
  iintro ⟨⟨%W3, HO⟩, Hat3, Hvr⟩
  unfold dpay qP kW vW krR vrR oR
  iapply (wp_load_rect 𝒱₀ (c : Thread nD τ) none Set.univ (m := qM) (r := rect (base c + j) i₁) (Finset.subset_univ _)) $$ Hq; iintro Hq
  iapply (wp_load_rect 𝒱₀ (c : Thread nD τ) none Set.univ (m := kM) (r := rect (base c + j) i₂) (Finset.subset_univ _)) $$ Hk_; iintro Hk_
  iapply (wp_load_rect 𝒱₀ (c : Thread nD τ) none Set.univ (m := krM) (r := rect (base c + j) i₃) ((View.set_slice_whole _ _).trans (rect_row _ i₃)).subset) $$ Hkr; iintro Hkr
  iapply (wp_load_rect 𝒱₀ (c : Thread nD τ) none Set.univ (m := vM) (r := rect (base c + j) i₄) (Finset.subset_univ _)) $$ Hv; iintro Hv
  iapply (wp_load_rect 𝒱₀ (c : Thread nD τ) none Set.univ (m := vrM) (r := rect (base c + j) i₅) ((View.set_slice_whole _ _).trans (rect_row _ i₅)).subset) $$ Hvr; iintro Hvr
  iapply (wp_load_rect 𝒱₀ (c : Thread nD τ) none Set.univ (m := oM) (r := rect (base c + j) i₆) ((View.set_slice_whole _ _).trans (rect_row _ i₆)).subset) $$ Ho; iintro Ho
  iapply (wp_store 𝒱₀ (c : Thread nD τ) none Set.univ (m := oM) (r := rect (base c + j) i₇) (Mk := Finset.univ) ((View.set_slice_whole _ _).trans (rect_row _ i₇)).subset) $$ Ho; iintro Ho
  ihave Ho' := (Entails.of_eq (pointsTo_congr (stored_row QS KS VS (base c + j) hi i₇ c fo _
    (by rw [read_q _ hi, read_k _ hi, read_kr _ hi, read_v _ hi, read_vr _ hi])))) $$ Ho
  iapply (wp_sendO QS KS VS κ c n hn j hj off' hoff' fn (owing (tY c) (j + 1)) W3)
    $$ [Ho' Hon HO Ht4 Hr4 Ht5 Hr5]
  · isplitr; · iexact Hr
    isplitl [Ho']; · unfold oR; iexact Ho'
    isplitl [Hon]; · unfold oR; iexact Hon
    isplitl [HO]; · iexact HO
    isplitl [Ht4]; · iexact Ht4
    isplitl [Hr4]; · iexact Hr4
    isplitl [Ht5] <;> iassumption
  iintro ⟨Hc4, HO⟩
  iapply Hk
  isplitl [HO]; · iexists W3; iexact HO
  isplitl [Hq Hk_ Hv]
  · isplitl [Hq]; · iexact Hq
    isplitl [Hk_] <;> iassumption
  isplitl [Hrest]; · iexact Hrest
  isplitl [Hkr Hvr Hat2 Hat3 Hc4]
  · unfold headDone krR vrR
    isplitl [Hkr]; · iexact Hkr
    isplitl [Hvr]; · iexact Hvr
    isplitl [Hat2]; · iexact Hat2
    isplitl [Hat3] <;> iassumption
  iexact Hd

/-- Waiting on one cell a row with nothing owed: rows `n ≤ j < 8` still to wait for, rows `j < n` waited for. -/
def waitTodo (c : Dev nD) (f j : ℕ) : sProp 𝕄 := iprop(cred (tallyAt (dcell c f j) () (cred_ f)) ∗ atPos ER (dcell c f j) 0 ∅ 0)
/-- A row waited for: its round is over and what it pays is in hand. -/
def waitDone (c : Dev nD) (f j : ℕ) : sProp 𝕄 := iprop(atPos ER (dcell c f j) 1 ∅ 0 ∗ dpay QS KS VS c f j)
/-- The waits with `n` of them over. -/
def waitSt (c : Dev nD) (f n : ℕ) : sProp 𝕄 :=
  iprop(bigSep (Finset.Ico n 8) (waitTodo (F := F) c f) ∗ bigSep (Finset.range n) (waitDone QS KS VS c f))
/-- Nothing is owed. -/
def paid (c : Dev nD) : sProp 𝕄 := iprop(∃ W, owes (c : Thread nD τ) (0 : CellTallies nD τ sig Unit) W)

/-- One wait. -/
theorem wait_step {α : Type} {Q : α → sProp 𝕄} {k : PUnit → Prog (TpuEff nD τ sig (Elt F) Λ₀ .tc) α}
    {sp sp' : Space} {s s' : Shape} {e e' : EltTy} {κ' : Kind}
    (c : Dev nD) {f j : ℕ} (hf : f < 6) (hj : j < 8)
    {src : Memref sig .tc sp' s' e'} {dst : Memref sig κ' sp s e} {hsrc : src.view.WordExact} {hdst : dst.view.WordExact}
    (hN : dst.view.dmaCredit = cred_ f) :
    iprop(recs QS KS VS κ ∗ paid c ∗ waitSt QS KS VS c f j)
      ⊢ iprop(((paid c ∗ waitSt QS KS VS c f (j + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dsem f j) src dst hsrc hdst) k) Q) := by
  unfold waitSt
  rw [bigSep_Ico_succ_bot hj, bigSep_range_succ]
  unfold paid
  iintro ⟨#Hr, ⟨%W, HO⟩, Hj, Hd⟩ Hk
  icases Hj with ⟨Hj, Hrest⟩
  unfold waitTodo
  icases Hj with ⟨Hc, Hat⟩
  iapply (wp_wait QS KS VS κ c hf hj hN 0 W (mayWait_none c _)) $$ [Hc HO Hat]
  · isplitr; · iexact Hr
    isplitl [Hc]; · iexact Hc
    isplitl [HO] <;> iassumption
  iintro ⟨HO, Hat, Hpay⟩
  iapply Hk
  isplitl [HO]; · iexact HO
  isplitl [Hrest]; · iexact Hrest
  isplitl [Hat Hpay]
  · unfold waitDone; isplitl [Hat] <;> iassumption
  iexact Hd

/-! ## The handshake -/

/-- What the first neighbour pays a barrier. -/
theorem payload_barX (c : Dev nD) : (sched QS KS VS).payload (barCell c) 0 true = barX c := rfl
/-- What the second neighbour pays. -/
theorem payload_barY (c : Dev nD) : (sched QS KS VS).payload (barCell c) 0 false = barY c := rfl

/-- The signal to `xn c`: the rows of the own landing buffers that `xn c` fills. -/
theorem signalX {α : Type} {Q : α → sProp 𝕄} {k : PUnit → Prog (TpuEff nD τ sig (Elt F) Λ₀ .tc) α}
    (c n : Dev nD) (hn : n = xn c) (W : Waits sig Unit) :
    iprop(recs QS KS VS κ ∗ owes (c : Thread nD τ) (O₀ c) W ∗ dutyTok ER (barCell (xn c)) 0 true ∗ barX (xn c))
      ⊢ iprop((owes (c : Thread nD τ) (owing (tY c) 0 + owing (tX c) 0 + tallyAt (barCell (yn c)) () 1) W
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, Proc.tc) barS (1#32).toInt) k) Q) := by
  subst hn
  refine BIBase.Entails.trans ?_ (Rounds.wp_signal 𝒱₀ ER (sched QS KS VS) (c : Thread nD τ) none (dst := (xn c : Thread nD τ)) (κ := κ (barCell (xn c)))
      (d := true) (r := 0) (k' := 1) (by rw [duties_bar]; exact Finset.mem_univ _) (amount_bar QS KS VS (xn c) true) ()
      (owing (tY c) 0 + owing (tX c) 0 + tallyAt (barCell (yn c)) () 1) rfl)
  iintro ⟨#Hr, HO, Ht, Hp⟩
  isplitr; · iapply (inv_bar QS KS VS κ (xn c)); iexact Hr
  isplitl [HO]; · iexact HO
  isplitl [Ht]; · iexact Ht
  isplitl [Hp]; · rw [payload_barX]; iexact Hp
  iapply (reached_bar QS KS VS κ (xn c)); iexact Hr

/-- The signal to `yn c`: the rows of the own result that `yn c` fills. -/
theorem signalY {α : Type} {Q : α → sProp 𝕄} {k : PUnit → Prog (TpuEff nD τ sig (Elt F) Λ₀ .tc) α}
    (c n : Dev nD) (hn : n = yn c) (W : Waits sig Unit) :
    iprop(recs QS KS VS κ ∗ owes (c : Thread nD τ) (owing (tY c) 0 + owing (tX c) 0 + tallyAt (barCell (yn c)) () 1) W
        ∗ dutyTok ER (barCell (yn c)) 0 false ∗ barY (yn c))
      ⊢ iprop((owes (c : Thread nD τ) (owing (tY c) 0 + owing (tX c) 0) W
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, Proc.tc) barS (1#32).toInt) k) Q) := by
  subst hn
  refine BIBase.Entails.trans ?_ (Rounds.wp_signal 𝒱₀ ER (sched QS KS VS) (c : Thread nD τ) none (dst := (yn c : Thread nD τ)) (κ := κ (barCell (yn c)))
      (d := false) (r := 0) (k' := 1) (by rw [duties_bar]; exact Finset.mem_univ _) (amount_bar QS KS VS (yn c) false) ()
      (owing (tY c) 0 + owing (tX c) 0) rfl)
  iintro ⟨#Hr, HO, Ht, Hp⟩
  isplitr; · iapply (inv_bar QS KS VS κ (yn c)); iexact Hr
  isplitl [HO]; · iexact HO
  isplitl [Ht]; · iexact Ht
  isplitl [Hp]; · rw [payload_barY]; iexact Hp
  iapply (reached_bar QS KS VS κ (yn c)); iexact Hr

/-- The wait for both neighbours: the rows of their buffers come with it. -/
theorem waitBar {α : Type} {Q : α → sProp 𝕄} {k : PUnit → Prog (TpuEff nD τ sig (Elt F) Λ₀ .tc) α} (c : Dev nD) (W : Waits sig Unit) :
    iprop(recs QS KS VS κ ∗ cred (tallyAt (barCell c) () 2) ∗ owes (c : Thread nD τ) (owing (tY c) 0 + owing (tX c) 0) W ∗ atPos ER (barCell c) 0 ∅ 0)
      ⊢ iprop((((∃ W', owes (c : Thread nD τ) (owing (tY c) 0 + owing (tX c) 0) W') ∗ atPos ER (barCell c) 1 ∅ 0 ∗ barX c ∗ barY c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (2#32).toInt) k) Q) := by
  iintro ⟨#Hr, Hc, HO, Hat⟩ Hk
  iapply (Rounds.wp_wait_rest_token 𝒱₀ ER (sched QS KS VS) (c : Thread nD τ) none (κ := κ (barCell c)) (k' := 2)
      (wpE_semWait_eq 𝒱₀ (c : Thread nD τ) none Set.univ) (Set.mem_univ _) () (O := owing (tY c) 0 + owing (tX c) 0) (W := W) (R := 0) (m := 0) (T := ∅)
      (by rw [Nat.zero_add, expect_bar])) $$ [Hc HO Hat]
  · isplitr; · iapply (inv_bar QS KS VS κ c); iexact Hr
    isplitl [Hc]; · iexact Hc
    isplitl [HO]; · iexact HO
    isplitr; · iapply (mayWait_bar c); iapply (levs QS KS VS κ); iexact Hr
    iexact Hat
  iintro ⟨HO, Hat, -, Hpay⟩
  iapply Hk
  isplitl [HO]; · iexists _; iexact HO
  isplitl [Hat]; · iexact Hat
  iapply (Entails.of_eq (rest_bar QS KS VS c)); iexact Hpay

end Cert.AttnProof
-- ==== Proof.Body.lean ====
/-
The body, run from its start to its end on one device: the phases one after the other, and the rows passed from phase to phase.
-/
module

public import proofs.«01_k».proof.Proof.Steps
public import Idealize.SL.BI.BigOpNat

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (QS KS VS : Dev nD → S16x256x64.Idx → Elt F .bf16) (κ : GSem nD τ sig → ℕ)

/-! ## The semaphores the body names -/

/-- Semaphore `j` of an array laid from `b` on. -/
theorem sem_val {N b j : ℕ} {d : Fin 1 → ℕ} (hb : b + (⟨1, d⟩ : Shape).numel ≤ N)
    (h : ∀ a, (![j] : Fin 1 → ℕ) a + (![1] : Fin 1 → ℕ) a ≤ d a) (hq : S1.Squeezes S_) :
    ((SemArray.slice (SemArray.consecutive (n := N) b ⟨1, d⟩ hb) (Rect.unit (s := ⟨1, d⟩) ![j] ![1] h)).squeeze S_ hq).sem.val = b + j := by
  refine congrArg (b + ·) (show ((⟨1, d⟩ : Shape).rowMajor ((Rect.unit (s := ⟨1, d⟩) ![j] ![1] h).emb (Shape.reshapeEquiv hq.numel_eq fun i => i.elim0))).val = j from ?_)
  rw [Shape.rowMajor_val_one]
  generalize Shape.reshapeEquiv hq.numel_eq (fun i => i.elim0) = x
  show j + 1 * (x 0).val = j
  have := (x 0).isLt
  simp at this
  omega

/-- The kernel's semaphore `j` of the first sending array is copy semaphore `j % 8` of family `j / 8`: keys, then values. -/
theorem sem_x_send (j : ℕ) (h : ∀ a, (![j] : Fin 1 → ℕ) a + (![1] : Fin 1 → ℕ) a ≤ S16.size a) (hq : S1.Squeezes S_) :
    ((SemArray.slice cc0_scratch2 (Rect.unit (s := S16) ![j] ![1] h)).squeeze S_ hq).sem = dsem (j / 8) (j % 8) := by
  have hj : j < 16 := by have := h 0; simp at this; omega
  refine Fin.ext ((sem_val _ h hq).trans ?_)
  rw [dsem_val (f := (j / 8)) (j := (j % 8)) (by omega) (by omega)]
  omega
/-- Semaphore `j` of the first arrival array: family `2` for the keys, `3` for the values. -/
theorem sem_x_recv (j : ℕ) (h : ∀ a, (![j] : Fin 1 → ℕ) a + (![1] : Fin 1 → ℕ) a ≤ S16.size a) (hq : S1.Squeezes S_) :
    ((SemArray.slice cc0_scratch3 (Rect.unit (s := S16) ![j] ![1] h)).squeeze S_ hq).sem = dsem (2 + j / 8) (j % 8) := by
  have hj : j < 16 := by have := h 0; simp at this; omega
  refine Fin.ext ((sem_val _ h hq).trans ?_)
  rw [dsem_val (f := (2 + j / 8)) (j := (j % 8)) (by omega) (by omega)]
  omega
/-- Semaphore `j` of the array for sending results: family `4`. -/
theorem sem_y_send (j : ℕ) (h : ∀ a, (![j] : Fin 1 → ℕ) a + (![1] : Fin 1 → ℕ) a ≤ S8.size a) (hq : S1.Squeezes S_) :
    ((SemArray.slice cc0_scratch4 (Rect.unit (s := S8) ![j] ![1] h)).squeeze S_ hq).sem = dsem 4 j := by
  have hj : j < 8 := by have := h 0; simp at this; omega
  refine Fin.ext ((sem_val _ h hq).trans ?_)
  rw [dsem_val (f := 4) (j := j) (by omega) (by omega)]
/-- Semaphore `j` of the array for the arrival of results: family `5`. -/
theorem sem_y_recv (j : ℕ) (h : ∀ a, (![j] : Fin 1 → ℕ) a + (![1] : Fin 1 → ℕ) a ≤ S8.size a) (hq : S1.Squeezes S_) :
    ((SemArray.slice cc0_scratch5 (Rect.unit (s := S8) ![j] ![1] h)).squeeze S_ hq).sem = dsem 5 j := by
  have hj : j < 8 := by have := h 0; simp at this; omega
  refine Fin.ext ((sem_val _ h hq).trans ?_)
  rw [dsem_val (f := 5) (j := j) (by omega) (by omega)]

/-- The row that the kernel's first offset names, counted from the device's first row. -/
theorem off1_row (c : Dev nD) {j : ℕ} (hj : j < 8) : k0_off1 c (BitVec.ofNat 32 j) = ![base c + j, 0, 0] := k0_off1_eq c ⟨j, hj⟩
/-- The same for the second offset. -/
theorem off2_row (c : Dev nD) {j : ℕ} (hj : j < 8) : k0_off2 c (BitVec.ofNat 32 j) = ![base c + j, 0, 0] := k0_off2_eq c ⟨j, hj⟩

/-! ## The rows at the start and at the end -/

/-- What a device brings to row `j` before it hears from its neighbours. -/
def startRow (c : Dev nD) (j : ℕ) : sProp 𝕄 :=
  iprop((kR c (base c + j) (KS c) ∗ vR c (base c + j) (VS c) ∗ (∃ f, oR c (base c + j) f))
    ∗ (dutyTok ER (dcell c 0 j) 0 false ∗ reached ER (dcell c 0 j) 0 ∗ dutyTok ER (dcell (xn c) 2 j) 0 false)
    ∗ (dutyTok ER (dcell c 1 j) 0 false ∗ reached ER (dcell c 1 j) 0 ∗ dutyTok ER (dcell (xn c) 3 j) 0 false)
    ∗ (dutyTok ER (dcell c 4 j) 0 false ∗ reached ER (dcell c 4 j) 0 ∗ dutyTok ER (dcell (yn c) 5 j) 0 false)
    ∗ (cred (tallyAt (dcell c 2 j) () cK) ∗ atPos ER (dcell c 2 j) 0 ∅ 0) ∗ (cred (tallyAt (dcell c 3 j) () cK) ∗ atPos ER (dcell c 3 j) 0 ∅ 0)
    ∗ (cred (tallyAt (dcell c 5 j) () cO) ∗ atPos ER (dcell c 5 j) 0 ∅ 0)
    ∗ atPos ER (dcell c 0 j) 0 ∅ 0 ∗ atPos ER (dcell c 1 j) 0 ∅ 0 ∗ atPos ER (dcell c 4 j) 0 ∅ 0)

/-- What a device is left with for row `j`. -/
def endRow (c : Dev nD) (j : ℕ) : sProp 𝕄 :=
  iprop((kR c (base c + j) (KS c) ∗ vR c (base c + j) (VS c) ∗ krR c (base c + j) (KS (xn c)) ∗ vrR c (base c + j) (VS (xn c))
      ∗ oR c (base c + j) (outC QS KS VS c) ∗ oR c (base (yn c) + j) (outC QS KS VS (yn c)))
    ∗ atPos ER (dcell c 0 j) 1 ∅ 0 ∗ atPos ER (dcell c 1 j) 1 ∅ 0 ∗ atPos ER (dcell c 2 j) 1 ∅ 0
    ∗ atPos ER (dcell c 3 j) 1 ∅ 0 ∗ atPos ER (dcell c 4 j) 1 ∅ 0 ∗ atPos ER (dcell c 5 j) 1 ∅ 0)

/-- The send cells, not yet waited on. -/
def sends (c : Dev nD) (j : ℕ) : sProp 𝕄 := iprop(atPos ER (dcell c 0 j) 0 ∅ 0 ∗ atPos ER (dcell c 1 j) 0 ∅ 0 ∗ atPos ER (dcell c 4 j) 0 ∅ 0)

/-- The eight rows a device computes, counted from its first. -/
abbrev rows8 : Finset ℕ := Finset.Ico 0 8

/-- An entailment row by row is one of all eight rows. -/
theorem rows_mono {Φ Ψ : ℕ → sProp 𝕄} (h : ∀ j, Φ j ⊢ Ψ j) : bigSep rows8 Φ ⊢ bigSep rows8 Ψ := bigSep_mono fun j _ => h j

/-- The rows once the neighbours' buffers are in hand: what each phase needs. -/
theorem after_bar (c : Dev nD) :
    iprop(bigSep rows8 (startRow KS VS c) ∗ barX c ∗ barY c)
      ⊢ iprop(bigSep rows8 (sendTodo KS VS c) ∗ bigSep rows8 (headTodo (F := F) c) ∗ bigSep rows8 (waitTodo (F := F) c 5) ∗ bigSep rows8 (sends (F := F) c)) := by
  unfold barX barY
  rw [← bigSep_sep', ← bigSep_sep', ← bigSep_sep', ← bigSep_sep', ← bigSep_sep']
  refine rows_mono fun j => ?_
  unfold startRow sendTodo headTodo waitTodo sends
  iintro ⟨⟨⟨Hk, Hv, Ho⟩, ⟨Ht0, Hr0, Ht2⟩, ⟨Ht1, Hr1, Ht3⟩, Ht4, H2, H3, H5, Ha0, Ha1, Ha4⟩, ⟨Hkr, Hvr, Hr2, Hr3⟩, Hon, Hr5⟩
  isplitl [Hk Hv Ht0 Hr0 Ht2 Ht1 Hr1 Ht3 Hkr Hvr Hr2 Hr3]
  · isplitl [Hk]; · iexact Hk
    isplitl [Hv]; · iexact Hv
    isplitl [Ht0 Hr0 Ht2]
    · isplitl [Ht0]; · iexact Ht0
      isplitl [Hr0] <;> iassumption
    isplitl [Ht1 Hr1 Ht3]
    · isplitl [Ht1]; · iexact Ht1
      isplitl [Hr1] <;> iassumption
    isplitl [Hkr]; · iexact Hkr
    isplitl [Hvr]; · iexact Hvr
    isplitl [Hr2] <;> iassumption
  isplitl [H2 H3 Ho Ht4 Hon Hr5]
  · isplitl [H2]; · iexact H2
    isplitl [H3]; · iexact H3
    isplitl [Ho]; · iexact Ho
    isplitl [Ht4]; · iexact Ht4
    isplitl [Hon] <;> iassumption
  isplitl [H5]; · iexact H5
  isplitl [Ha0]; · iexact Ha0
  isplitl [Ha1] <;> iassumption

/-- The rows once all is sent: what the last waits need. -/
theorem after_heads (c : Dev nD) :
    iprop(bigSep rows8 (sendDone (F := F) c) ∗ bigSep rows8 (headDone KS VS c) ∗ bigSep rows8 (sends (F := F) c))
      ⊢ iprop(bigSep rows8 (waitTodo (F := F) c 0) ∗ bigSep rows8 (waitTodo (F := F) c 1) ∗ bigSep rows8 (waitTodo (F := F) c 4)
          ∗ bigSep rows8 fun j => iprop(krR c (base c + j) (KS (xn c)) ∗ vrR c (base c + j) (VS (xn c)) ∗ atPos ER (dcell c 2 j) 1 ∅ 0 ∗ atPos ER (dcell c 3 j) 1 ∅ 0)) := by
  rw [← bigSep_sep', ← bigSep_sep', ← bigSep_sep', ← bigSep_sep', ← bigSep_sep']
  refine rows_mono fun j => ?_
  unfold sendDone headDone waitTodo sends
  rw [show cred_ 0 = cK from rfl, show cred_ 1 = cK from rfl, show cred_ 4 = cO from rfl]
  iintro ⟨⟨Hc0, Hc1⟩, ⟨Hkr, Hvr, Ha2, Ha3, Hc4⟩, Ha0, Ha1, Ha4⟩
  isplitl [Hc0 Ha0]
  · isplitl [Hc0] <;> iassumption
  isplitl [Hc1 Ha1]
  · isplitl [Hc1] <;> iassumption
  isplitl [Hc4 Ha4]
  · isplitl [Hc4] <;> iassumption
  isplitl [Hkr]; · iexact Hkr
  isplitl [Hvr]; · iexact Hvr
  isplitl [Ha2] <;> iassumption

/-- The rows at the end. -/
theorem at_end (c : Dev nD) :
    iprop(bigSep rows8 (waitDone QS KS VS c 0) ∗ bigSep rows8 (waitDone QS KS VS c 1) ∗ bigSep rows8 (waitDone QS KS VS c 4) ∗ bigSep rows8 (waitDone QS KS VS c 5)
          ∗ bigSep rows8 fun j => iprop(krR c (base c + j) (KS (xn c)) ∗ vrR c (base c + j) (VS (xn c)) ∗ atPos ER (dcell c 2 j) 1 ∅ 0 ∗ atPos ER (dcell c 3 j) 1 ∅ 0))
      ⊢ bigSep rows8 (endRow QS KS VS c) := by
  rw [← bigSep_sep', ← bigSep_sep', ← bigSep_sep', ← bigSep_sep']
  refine rows_mono fun j => ?_
  unfold waitDone endRow dpay
  iintro ⟨⟨Ha0, Hk⟩, ⟨Ha1, Hv⟩, ⟨Ha4, Ho⟩, ⟨Ha5, Ho'⟩, Hkr, Hvr, Ha2, Ha3⟩
  isplitl [Hk Hv Ho Ho' Hkr Hvr]
  · isplitl [Hk]; · iexact Hk
    isplitl [Hv]; · iexact Hv
    isplitl [Hkr]; · iexact Hkr
    isplitl [Hvr]; · iexact Hvr
    isplitl [Ho] <;> iassumption
  isplitl [Ha0]; · iexact Ha0
  isplitl [Ha1]; · iexact Ha1
  isplitl [Ha2]; · iexact Ha2
  isplitl [Ha3]; · iexact Ha3
  isplitl [Ha4] <;> iassumption

/-- What the body starts from on device `c`, and what it leaves. -/
def bodyStart (c : Dev nD) : sProp 𝕄 :=
  iprop((∃ W, owes (c : Thread nD τ) (O₀ c) W) ∗ (cred (tallyAt (barCell c) () 2) ∗ atPos ER (barCell c) 0 ∅ 0)
    ∗ (dutyTok ER (barCell (xn c)) 0 true ∗ barX (xn c)) ∗ (dutyTok ER (barCell (yn c)) 0 false ∗ barY (yn c))
    ∗ (qP c (QS c) ∗ kW c (KS c) ∗ vW c (VS c)) ∗ bigSep rows8 (startRow KS VS c))
/-- What the body leaves on device `c`: nothing owed, the barrier's round over, the inputs, and each row at its end. -/
def bodyEnd (c : Dev nD) : sProp 𝕄 :=
  iprop(paid c ∗ atPos ER (barCell c) 1 ∅ 0 ∗ (qP c (QS c) ∗ kW c (KS c) ∗ vW c (VS c)) ∗ bigSep rows8 (endRow QS KS VS c))

/-- Before the first send every row is still to send. -/
theorem send_start (c : Dev nD) :
    iprop((∃ W, owes (c : Thread nD τ) (owing (tY c) 0 + owing (tX c) 0) W) ∗ bigSep rows8 (sendTodo KS VS c)) ⊢ sendSt KS VS c 0 := by
  unfold sendSt
  rw [Finset.range_zero, bigSep_empty]
  iintro ⟨HO, H⟩
  isplitl [HO]; · iexact HO
  isplitl [H]; · iexact H
  iempintro

/-! ## The heads: the eight are printed in different pieces and compute one function -/

/-- The second head, in the pieces it is printed in. -/
theorem head_1 : (fun q k kr v vr => k0_pay13 (k0_pay10 q k kr) (k0_pay11 q k kr) (k0_pay12 q k kr v) vr) = headFn (F := F) := rfl
/-- The third head. -/
theorem head_2 : (fun q k kr v vr => k0_pay23 (k0_pay20 q k kr) (k0_pay21 q k kr) (k0_pay22 q k kr) v vr) = headFn (F := F) := rfl
/-- The fourth head. -/
theorem head_3 : (fun q k kr v vr => k0_pay30 (k0_pay28 q k kr) (k0_pay29 q k kr) v vr) = headFn (F := F) := rfl
/-- The fifth head. -/
theorem head_4 : (fun q k kr v vr => k0_pay35 (k0_pay32 q k) (k0_pay33 q kr) (k0_pay34 q k) v vr) = headFn (F := F) := rfl
/-- The sixth head. -/
theorem head_5 : (fun q k kr v vr => k0_pay39 (k0_pay36 q) (k0_pay37 q k) (k0_pay38 kr) v vr) = headFn (F := F) := rfl
/-- The seventh head. -/
theorem head_6 : (fun q k kr v vr => k0_pay42 (k0_pay40 q) (k0_pay41 k) (constant S256x256 .f32 0x00000000#32) kr v vr) = headFn (F := F) := rfl
/-- The eighth head. -/
theorem head_7 : (fun q k kr v vr => k0_pay51 (k0_pay49 q k kr) (k0_pay50 q k kr v vr)) = headFn (F := F) := rfl

/-- All rows done is all eight rows. -/
theorem rows_done : (Finset.range 8 : Finset ℕ) = rows8 := Finset.range_eq_Ico 8

/-- With every row sent, every head is still to compute. -/
theorem head_start (c : Dev nD) :
    iprop(sendSt KS VS c 8 ∗ (qP c (QS c) ∗ kW c (KS c) ∗ vW c (VS c)) ∗ bigSep rows8 (headTodo (F := F) c))
      ⊢ iprop(bigSep rows8 (sendDone (F := F) c) ∗ headSt QS KS VS c 0) := by
  unfold sendSt headSt
  rw [Finset.range_zero, bigSep_empty, owing_done, add_zero, rows_done]
  iintro ⟨⟨HO, -, Hd⟩, Hpc, Hh⟩
  isplitl [Hd]; · iexact Hd
  isplitl [HO]; · iexact HO
  isplitl [Hpc]; · iexact Hpc
  isplitl [Hh]; · iexact Hh
  iempintro

/-- With every head computed nothing is owed, and the arrivals of results and all sends are still to wait for. -/
theorem wait_start (c : Dev nD) :
    iprop(headSt QS KS VS c 8 ∗ bigSep rows8 (sendDone (F := F) c) ∗ bigSep rows8 (waitTodo (F := F) c 5) ∗ bigSep rows8 (sends (F := F) c))
      ⊢ iprop(paid (F := F) c ∗ (qP c (QS c) ∗ kW c (KS c) ∗ vW c (VS c)) ∗ waitSt QS KS VS c 0 0 ∗ waitSt QS KS VS c 1 0 ∗ waitSt QS KS VS c 4 0
          ∗ waitSt QS KS VS c 5 0
          ∗ bigSep rows8 fun j => iprop(krR c (base c + j) (KS (xn c)) ∗ vrR c (base c + j) (VS (xn c)) ∗ atPos ER (dcell c 2 j) 1 ∅ 0 ∗ atPos ER (dcell c 3 j) 1 ∅ 0)) := by
  unfold headSt waitSt paid
  rw [Finset.range_zero, owing_done, rows_done, bigSep_empty, bigSep_empty, bigSep_empty, bigSep_empty]
  iintro ⟨⟨HO, Hpc, -, Hd⟩, Hs, H5, Hss⟩
  ihave Hx := (after_heads KS VS c) $$ [Hs Hd Hss]
  · isplitl [Hs]; · iexact Hs
    isplitl [Hd] <;> iassumption
  icases Hx with ⟨H0, H1, H4, Hrest⟩
  isplitl [HO]; · iexact HO
  isplitl [Hpc]; · iexact Hpc
  isplitl [H0]; · isplitl [H0]; · iexact H0
                  iempintro
  isplitl [H1]; · isplitl [H1]; · iexact H1
                  iempintro
  isplitl [H4]; · isplitl [H4]; · iexact H4
                  iempintro
  isplitl [H5]; · isplitl [H5]; · iexact H5
                  iempintro
  iexact Hrest

/-- With every row of a family waited for, each row's landing is in hand. -/
theorem waited (c : Dev nD) (f : ℕ) : waitSt QS KS VS c f 8 ⊢ bigSep rows8 (waitDone QS KS VS c f) := by
  unfold waitSt
  rw [rows_done]
  iintro ⟨-, H⟩
  iexact H

/-- With all waits over each row is at its end. -/
theorem wait_end (c : Dev nD) :
    iprop(waitSt QS KS VS c 0 8 ∗ waitSt QS KS VS c 1 8 ∗ waitSt QS KS VS c 4 8 ∗ waitSt QS KS VS c 5 8
          ∗ bigSep rows8 fun j => iprop(krR c (base c + j) (KS (xn c)) ∗ vrR c (base c + j) (VS (xn c)) ∗ atPos ER (dcell c 2 j) 1 ∅ 0 ∗ atPos ER (dcell c 3 j) 1 ∅ 0))
      ⊢ bigSep rows8 (endRow QS KS VS c) := by
  iintro ⟨H0, H1, H4, H5, H⟩
  iapply (at_end QS KS VS c)
  isplitl [H0]; · iapply (waited QS KS VS c 0); iexact H0
  isplitl [H1]; · iapply (waited QS KS VS c 1); iexact H1
  isplitl [H4]; · iapply (waited QS KS VS c 4); iexact H4
  isplitl [H5]; · iapply (waited QS KS VS c 5); iexact H5
  iexact H

set_option maxHeartbeats 2000000 in
/-- The body runs from its start to its end. -/
theorem body_run (c : Dev nD) (Q : PUnit → sProp 𝕄) (h₀ h₁ h₂ h₃ h₄ h₅) :
    iprop(recs QS KS VS κ ∗ bodyStart QS KS VS c)
      ⊢ iprop((bodyEnd QS KS VS c -∗ Q ⟨⟩) -∗ wp frame (wpE (defs₀ (F := F)) 𝒱₀ (c : Thread nD τ) none) Set.univ
        (cc0_body (F := F) qM h₀ kM h₁ vM h₂ oM h₃ krM h₄ vrM h₅ cc0_scratch2 cc0_scratch3 cc0_scratch4 cc0_scratch5) Q) := by
  simp only [cc0_body_eq_skeleton]
  unfold cc0_body_skel
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel]
  simp only [semSignalWord, semWaitWord, Prog.lift, Prog.bind_op, Prog.bind_ret, Prog.pure_eq_ret, Prog.bind_assoc, wp_deviceId,
    sem_x_send, sem_x_recv, sem_y_send, sem_y_recv, Nat.reduceDiv, Nat.reduceMod, Nat.reduceAdd]
  unfold bodyStart
  iintro ⟨#Hr, ⟨%W, HO⟩, ⟨Hcb, Hab⟩, ⟨Htx, Hbx⟩, ⟨Hty, Hby⟩, Hpc, Hrows⟩ Hend
  iapply (signalX QS KS VS κ c _ (Fin.ext (k0_dev1_eq c)) W) $$ [HO Htx Hbx]
  · isplitr; · iexact Hr
    isplitl [HO]; · iexact HO
    isplitl [Htx] <;> iassumption
  iintro HO
  iapply (signalY QS KS VS κ c _ (Fin.ext (k0_dev2_eq c)) W) $$ [HO Hty Hby]
  · isplitr; · iexact Hr
    isplitl [HO]; · iexact HO
    isplitl [Hty] <;> iassumption
  iintro HO
  iapply (waitBar QS KS VS κ c W) $$ [HO Hcb Hab]
  · isplitr; · iexact Hr
    isplitl [Hcb]; · iexact Hcb
    isplitl [HO] <;> iassumption
  iintro ⟨HO, Hab, Hbx, Hby⟩
  ihave Hph := (after_bar KS VS c) $$ [Hrows Hbx Hby]
  · isplitl [Hrows]; · iexact Hrows
    isplitl [Hbx] <;> iassumption
  icases Hph with ⟨Hsend, Hhead, H5, Hs⟩
  ihave S := (send_start KS VS c) $$ [HO Hsend]
  · isplitl [HO] <;> iassumption
  iapply (send_step QS KS VS κ c _ _ (Fin.ext (k0_dev3_eq c)) (Fin.ext (k0_dev4_eq c)) 0 (by decide) _ (off1_row c (j := 0) (by decide))) $$ [S]
  · isplitr; · iexact Hr
    iexact S
  iintro S
  iapply (send_step QS KS VS κ c _ _ (Fin.ext (k0_dev5_eq c)) (Fin.ext (k0_dev6_eq c)) 1 (by decide) _ (off1_row c (j := 1) (by decide))) $$ [S]
  · isplitr; · iexact Hr
    iexact S
  iintro S
  iapply (send_step QS KS VS κ c _ _ (Fin.ext (k0_dev7_eq c)) (Fin.ext (k0_dev8_eq c)) 2 (by decide) _ (off1_row c (j := 2) (by decide))) $$ [S]
  · isplitr; · iexact Hr
    iexact S
  iintro S
  iapply (send_step QS KS VS κ c _ _ (Fin.ext (k0_dev9_eq c)) (Fin.ext (k0_dev10_eq c)) 3 (by decide) _ (off1_row c (j := 3) (by decide))) $$ [S]
  · isplitr; · iexact Hr
    iexact S
  iintro S
  iapply (send_step QS KS VS κ c _ _ (Fin.ext (k0_dev11_eq c)) (Fin.ext (k0_dev12_eq c)) 4 (by decide) _ (off1_row c (j := 4) (by decide))) $$ [S]
  · isplitr; · iexact Hr
    iexact S
  iintro S
  iapply (send_step QS KS VS κ c _ _ (Fin.ext (k0_dev13_eq c)) (Fin.ext (k0_dev14_eq c)) 5 (by decide) _ (off1_row c (j := 5) (by decide))) $$ [S]
  · isplitr; · iexact Hr
    iexact S
  iintro S
  iapply (send_step QS KS VS κ c _ _ (Fin.ext (k0_dev15_eq c)) (Fin.ext (k0_dev16_eq c)) 6 (by decide) _ (off1_row c (j := 6) (by decide))) $$ [S]
  · isplitr; · iexact Hr
    iexact S
  iintro S
  iapply (send_step QS KS VS κ c _ _ (Fin.ext (k0_dev17_eq c)) (Fin.ext (k0_dev18_eq c)) 7 (by decide) _ (off1_row c (j := 7) (by decide))) $$ [S]
  · isplitr; · iexact Hr
    iexact S
  iintro S
  ihave H := (head_start QS KS VS c) $$ [S Hpc Hhead]
  · isplitl [S]; · iexact S
    isplitl [Hpc] <;> iassumption
  icases H with ⟨Hsd, H⟩
  iapply (head_step QS KS VS κ c _ (Fin.ext (k0_dev19_eq c)) 0 (by decide) _ _ (off2_row c (j := 0) (by decide)) (off1_row c (j := 0) (by decide)) rfl rfl
    (fun q k kr v vr => k0_pay3 (k0_pay2 (k0_pay1 q) k kr v vr)) rfl) $$ [H]
  · isplitr; · iexact Hr
    iexact H
  iintro H
  iapply (head_step QS KS VS κ c _ (Fin.ext (k0_dev20_eq c)) 1 (by decide) _ _ (off2_row c (j := 1) (by decide)) (off1_row c (j := 1) (by decide)) rfl rfl
    (fun q k kr v vr => k0_pay13 (k0_pay10 q k kr) (k0_pay11 q k kr) (k0_pay12 q k kr v) vr) head_1) $$ [H]
  · isplitr; · iexact Hr
    iexact H
  iintro H
  iapply (head_step QS KS VS κ c _ (Fin.ext (k0_dev21_eq c)) 2 (by decide) _ _ (off2_row c (j := 2) (by decide)) (off1_row c (j := 2) (by decide)) rfl rfl
    (fun q k kr v vr => k0_pay23 (k0_pay20 q k kr) (k0_pay21 q k kr) (k0_pay22 q k kr) v vr) head_2) $$ [H]
  · isplitr; · iexact Hr
    iexact H
  iintro H
  iapply (head_step QS KS VS κ c _ (Fin.ext (k0_dev22_eq c)) 3 (by decide) _ _ (off2_row c (j := 3) (by decide)) (off1_row c (j := 3) (by decide)) rfl rfl
    (fun q k kr v vr => k0_pay30 (k0_pay28 q k kr) (k0_pay29 q k kr) v vr) head_3) $$ [H]
  · isplitr; · iexact Hr
    iexact H
  iintro H
  iapply (head_step QS KS VS κ c _ (Fin.ext (k0_dev23_eq c)) 4 (by decide) _ _ (off2_row c (j := 4) (by decide)) (off1_row c (j := 4) (by decide)) rfl rfl
    (fun q k kr v vr => k0_pay35 (k0_pay32 q k) (k0_pay33 q kr) (k0_pay34 q k) v vr) head_4) $$ [H]
  · isplitr; · iexact Hr
    iexact H
  iintro H
  iapply (head_step QS KS VS κ c _ (Fin.ext (k0_dev24_eq c)) 5 (by decide) _ _ (off2_row c (j := 5) (by decide)) (off1_row c (j := 5) (by decide)) rfl rfl
    (fun q k kr v vr => k0_pay39 (k0_pay36 q) (k0_pay37 q k) (k0_pay38 kr) v vr) head_5) $$ [H]
  · isplitr; · iexact Hr
    iexact H
  iintro H
  iapply (head_step QS KS VS κ c _ (Fin.ext (k0_dev25_eq c)) 6 (by decide) _ _ (off2_row c (j := 6) (by decide)) (off1_row c (j := 6) (by decide)) rfl rfl
    (fun q k kr v vr => k0_pay42 (k0_pay40 q) (k0_pay41 k) (constant S256x256 .f32 0x00000000#32) kr v vr) head_6) $$ [H]
  · isplitr; · iexact Hr
    iexact H
  iintro H
  iapply (head_step QS KS VS κ c _ (Fin.ext (k0_dev26_eq c)) 7 (by decide) _ _ (off2_row c (j := 7) (by decide)) (off1_row c (j := 7) (by decide)) rfl rfl
    (fun q k kr v vr => k0_pay51 (k0_pay49 q k kr) (k0_pay50 q k kr v vr)) head_7) $$ [H]
  · isplitr; · iexact Hr
    iexact H
  iintro H
  ihave Hw := (wait_start QS KS VS c) $$ [H Hsd H5 Hs]
  · isplitl [H]; · iexact H
    isplitl [Hsd]; · iexact Hsd
    isplitl [H5] <;> iassumption
  icases Hw with ⟨Hp, Hpc, W0, W1, W4, W5, Hrest⟩
  iapply (wait_step QS KS VS κ c (f := 5) (j := 0) (by decide) (by decide) rfl) $$ [Hp W5]
  · isplitr; · iexact Hr
    isplitl [Hp] <;> iassumption
  iintro ⟨Hp, W5⟩
  iapply (wait_step QS KS VS κ c (f := 5) (j := 1) (by decide) (by decide) rfl) $$ [Hp W5]
  · isplitr; · iexact Hr
    isplitl [Hp] <;> iassumption
  iintro ⟨Hp, W5⟩
  iapply (wait_step QS KS VS κ c (f := 5) (j := 2) (by decide) (by decide) rfl) $$ [Hp W5]
  · isplitr; · iexact Hr
    isplitl [Hp] <;> iassumption
  iintro ⟨Hp, W5⟩
  iapply (wait_step QS KS VS κ c (f := 5) (j := 3) (by decide) (by decide) rfl) $$ [Hp W5]
  · isplitr; · iexact Hr
    isplitl [Hp] <;> iassumption
  iintro ⟨Hp, W5⟩
  iapply (wait_step QS KS VS κ c (f := 5) (j := 4) (by decide) (by decide) rfl) $$ [Hp W5]
  · isplitr; · iexact Hr
    isplitl [Hp] <;> iassumption
  iintro ⟨Hp, W5⟩
  iapply (wait_step QS KS VS κ c (f := 5) (j := 5) (by decide) (by decide) rfl) $$ [Hp W5]
  · isplitr; · iexact Hr
    isplitl [Hp] <;> iassumption
  iintro ⟨Hp, W5⟩
  iapply (wait_step QS KS VS κ c (f := 5) (j := 6) (by decide) (by decide) rfl) $$ [Hp W5]
  · isplitr; · iexact Hr
    isplitl [Hp] <;> iassumption
  iintro ⟨Hp, W5⟩
  iapply (wait_step QS KS VS κ c (f := 5) (j := 7) (by decide) (by decide) rfl) $$ [Hp W5]
  · isplitr; · iexact Hr
    isplitl [Hp] <;> iassumption
  iintro ⟨Hp, W5⟩
  iapply (wait_step QS KS VS κ c (f := 0) (j := 0) (by decide) (by decide) rfl) $$ [Hp W0]
  · isplitr; · iexact Hr
    isplitl [Hp] <;> iassumption
  iintro ⟨Hp, W0⟩
  iapply (wait_step QS KS VS κ c (f := 1) (j := 0) (by decide) (by decide) rfl) $$ [Hp W1]
  · isplitr; · iexact Hr
    isplitl [Hp] <;> iassumption
  iintro ⟨Hp, W1⟩
  iapply (wait_step QS KS VS κ c (f := 0) (j := 1) (by decide) (by decide) rfl) $$ [Hp W0]
  · isplitr; · iexact Hr
    isplitl [Hp] <;> iassumption
  iintro ⟨Hp, W0⟩
  iapply (wait_step QS KS VS κ c (f := 1) (j := 1) (by decide) (by decide) rfl) $$ [Hp W1]
  · isplitr; · iexact Hr
    isplitl [Hp] <;> iassumption
  iintro ⟨Hp, W1⟩
  iapply (wait_step QS KS VS κ c (f := 0) (j := 2) (by decide) (by decide) rfl) $$ [Hp W0]
  · isplitr; · iexact Hr
    isplitl [Hp] <;> iassumption
  iintro ⟨Hp, W0⟩
  iapply (wait_step QS KS VS κ c (f := 1) (j := 2) (by decide) (by decide) rfl) $$ [Hp W1]
  · isplitr; · iexact Hr
    isplitl [Hp] <;> iassumption
  iintro ⟨Hp, W1⟩
  iapply (wait_step QS KS VS κ c (f := 0) (j := 3) (by decide) (by decide) rfl) $$ [Hp W0]
  · isplitr; · iexact Hr
    isplitl [Hp] <;> iassumption
  iintro ⟨Hp, W0⟩
  iapply (wait_step QS KS VS κ c (f := 1) (j := 3) (by decide) (by decide) rfl) $$ [Hp W1]
  · isplitr; · iexact Hr
    isplitl [Hp] <;> iassumption
  iintro ⟨Hp, W1⟩
  iapply (wait_step QS KS VS κ c (f := 0) (j := 4) (by decide) (by decide) rfl) $$ [Hp W0]
  · isplitr; · iexact Hr
    isplitl [Hp] <;> iassumption
  iintro ⟨Hp, W0⟩
  iapply (wait_step QS KS VS κ c (f := 1) (j := 4) (by decide) (by decide) rfl) $$ [Hp W1]
  · isplitr; · iexact Hr
    isplitl [Hp] <;> iassumption
  iintro ⟨Hp, W1⟩
  iapply (wait_step QS KS VS κ c (f := 0) (j := 5) (by decide) (by decide) rfl) $$ [Hp W0]
  · isplitr; · iexact Hr
    isplitl [Hp] <;> iassumption
  iintro ⟨Hp, W0⟩
  iapply (wait_step QS KS VS κ c (f := 1) (j := 5) (by decide) (by decide) rfl) $$ [Hp W1]
  · isplitr; · iexact Hr
    isplitl [Hp] <;> iassumption
  iintro ⟨Hp, W1⟩
  iapply (wait_step QS KS VS κ c (f := 0) (j := 6) (by decide) (by decide) rfl) $$ [Hp W0]
  · isplitr; · iexact Hr
    isplitl [Hp] <;> iassumption
  iintro ⟨Hp, W0⟩
  iapply (wait_step QS KS VS κ c (f := 1) (j := 6) (by decide) (by decide) rfl) $$ [Hp W1]
  · isplitr; · iexact Hr
    isplitl [Hp] <;> iassumption
  iintro ⟨Hp, W1⟩
  iapply (wait_step QS KS VS κ c (f := 0) (j := 7) (by decide) (by decide) rfl) $$ [Hp W0]
  · isplitr; · iexact Hr
    isplitl [Hp] <;> iassumption
  iintro ⟨Hp, W0⟩
  iapply (wait_step QS KS VS κ c (f := 1) (j := 7) (by decide) (by decide) rfl) $$ [Hp W1]
  · isplitr; · iexact Hr
    isplitl [Hp] <;> iassumption
  iintro ⟨Hp, W1⟩
  iapply (wait_step QS KS VS κ c (f := 4) (j := 0) (by decide) (by decide) rfl) $$ [Hp W4]
  · isplitr; · iexact Hr
    isplitl [Hp] <;> iassumption
  iintro ⟨Hp, W4⟩
  iapply (wait_step QS KS VS κ c (f := 4) (j := 1) (by decide) (by decide) rfl) $$ [Hp W4]
  · isplitr; · iexact Hr
    isplitl [Hp] <;> iassumption
  iintro ⟨Hp, W4⟩
  iapply (wait_step QS KS VS κ c (f := 4) (j := 2) (by decide) (by decide) rfl) $$ [Hp W4]
  · isplitr; · iexact Hr
    isplitl [Hp] <;> iassumption
  iintro ⟨Hp, W4⟩
  iapply (wait_step QS KS VS κ c (f := 4) (j := 3) (by decide) (by decide) rfl) $$ [Hp W4]
  · isplitr; · iexact Hr
    isplitl [Hp] <;> iassumption
  iintro ⟨Hp, W4⟩
  iapply (wait_step QS KS VS κ c (f := 4) (j := 4) (by decide) (by decide) rfl) $$ [Hp W4]
  · isplitr; · iexact Hr
    isplitl [Hp] <;> iassumption
  iintro ⟨Hp, W4⟩
  iapply (wait_step QS KS VS κ c (f := 4) (j := 5) (by decide) (by decide) rfl) $$ [Hp W4]
  · isplitr; · iexact Hr
    isplitl [Hp] <;> iassumption
  iintro ⟨Hp, W4⟩
  iapply (wait_step QS KS VS κ c (f := 4) (j := 6) (by decide) (by decide) rfl) $$ [Hp W4]
  · isplitr; · iexact Hr
    isplitl [Hp] <;> iassumption
  iintro ⟨Hp, W4⟩
  iapply (wait_step QS KS VS κ c (f := 4) (j := 7) (by decide) (by decide) rfl) $$ [Hp W4]
  · isplitr; · iexact Hr
    isplitl [Hp] <;> iassumption
  iintro ⟨Hp, W4⟩
  rw [wp_ret]
  imodintro
  iapply Hend
  unfold bodyEnd
  isplitl [Hp]; · iexact Hp
  isplitl [Hab]; · iexact Hab
  isplitl [Hpc]; · iexact Hpc
  iapply (wait_end QS KS VS c)
  isplitl [W0]; · iexact W0
  isplitl [W1]; · iexact W1
  isplitl [W4]; · iexact W4
  isplitl [W5]; · iexact W5
  iexact Hrest

end Cert.AttnProof
-- ==== Proof.Rows.lean ====
/-
Whole buffers taken apart into their sixteen rows, eight of this device and eight of its neighbour across the second mesh axis,
and put together again.
-/
module

public import proofs.«01_k».proof.Proof.Body

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Sixteen rows as twice eight -/

/-- Eight consecutive numbers from `b` on. -/
theorem shift8 (b : ℕ) (Φ : ℕ → sProp 𝕄) : bigSep (Finset.Ico b (b + 8)) Φ = bigSep rows8 fun j => Φ (b + j) := by
  rw [show Finset.Ico b (b + 8) = rows8.image (b + ·) from by
      ext x; simp only [Finset.mem_Ico, Finset.mem_image]
      exact ⟨fun h => ⟨x - b, by omega, by omega⟩, fun ⟨y, h, e⟩ => by omega⟩]
  exact bigSep_image_of_injOn (fun _ _ _ _ h => Nat.add_left_cancel h) Φ

/-- The sixteen rows are the eight a device computes and the eight its neighbour computes. -/
theorem rows16 (c : Dev nD) (Φ : ℕ → sProp 𝕄) :
    bigSep (Finset.range 16) Φ = iprop((bigSep rows8 fun j => Φ (base c + j)) ∗ (bigSep rows8 fun j => Φ (base (yn c) + j))) := by
  rw [← shift8, ← shift8, base_yn]
  refine Eq.trans (congrArg (bigSep · Φ) ?_) (BI.bigSep_union ?_)
  · ext x; simp only [Finset.mem_Ico, Finset.mem_union, Finset.mem_range]; have := base_cases c; omega
  · rw [Finset.disjoint_left]; intro x; simp only [Finset.mem_Ico]; have := base_cases c; omega

/-- A buffer held whole is its parts held, when sixteen parts that do not meet cover it. -/
theorem parts16 {ℓ : Loc nD τ sig} (q : PosShare TreeShare) (f : Buf (Elt F) ℓ) (R : ℕ → Finset (Idx ℓ))
    (hd : ∀ i i', i ≠ i' → Disjoint (R i) (R i')) (hc : ∀ x, ∃ i ∈ Finset.range 16, x ∈ R i) :
    (ℓ ↦{q} f : sProp 𝕄) = bigSep (Finset.range 16) fun i => ℓ ↦[R i]{q} f := by
  classical
  rw [← pointsTo_biUnion (Finset.range 16) R fun _ _ _ _ h => hd _ _ h]
  congr 1
  ext x
  simp only [Finset.mem_univ, Finset.mem_biUnion, true_iff]
  exact hc x

/-- Every element lies in one of the sixteen rows. -/
theorem in_row (x : S16x256x64.Idx) : ∃ i ∈ Finset.range 16, x ∈ row i := ⟨(x 0).val, Finset.mem_range.mpr (x 0).isLt, mem_row.mpr rfl⟩

/-- The sent half share of the keys, by rows. -/
theorem k_rows (c : Dev nD) (f : S16x256x64.Idx → Elt F .bf16) :
    (((c : Thread nD τ).loc cc0_stg1_0) ↦{fullShare.left} f : sProp 𝕄) = bigSep (Finset.range 16) fun i => kR c i f :=
  parts16 (ℓ := (c : Thread nD τ).loc cc0_stg1_0) fullShare.left f row (fun _ _ => row_disjoint) in_row
/-- The sent half share of the values, by rows. -/
theorem v_rows (c : Dev nD) (f : S16x256x64.Idx → Elt F .bf16) :
    (((c : Thread nD τ).loc cc0_stg2_0) ↦{fullShare.left} f : sProp 𝕄) = bigSep (Finset.range 16) fun i => vR c i f :=
  parts16 (ℓ := (c : Thread nD τ).loc cc0_stg2_0) fullShare.left f row (fun _ _ => row_disjoint) in_row
/-- The keys' landing buffer by rows. -/
theorem kr_rows (c : Dev nD) (f : S16x256x64.Idx → Elt F .bf16) :
    (((c : Thread nD τ).loc cc0_scratch0) ↦{fullShare} f : sProp 𝕄) = bigSep (Finset.range 16) fun i => krR c i f :=
  parts16 (ℓ := (c : Thread nD τ).loc cc0_scratch0) fullShare f row (fun _ _ => row_disjoint) in_row
/-- The values' landing buffer by rows. -/
theorem vr_rows (c : Dev nD) (f : S16x256x64.Idx → Elt F .bf16) :
    (((c : Thread nD τ).loc cc0_scratch1) ↦{fullShare} f : sProp 𝕄) = bigSep (Finset.range 16) fun i => vrR c i f :=
  parts16 (ℓ := (c : Thread nD τ).loc cc0_scratch1) fullShare f row (fun _ _ => row_disjoint) in_row
/-- The result buffer by rows. -/
theorem o_rows (c : Dev nD) (f : S16x256x64.Idx → Elt F .f32) :
    (((c : Thread nD τ).loc cc0_stg3_0) ↦{fullShare} f : sProp 𝕄) = bigSep (Finset.range 16) fun i => oR c i f :=
  parts16 (ℓ := (c : Thread nD τ).loc cc0_stg3_0) fullShare f row (fun _ _ => row_disjoint) in_row

/-- The keys (values) as staged: the sent half share by rows, the half share that stays whole. -/
theorem k_split (c : Dev nD) (f : S16x256x64.Idx → Elt F .bf16) :
    (((c : Thread nD τ).loc cc0_stg1_0) ↦{fullShare} f : sProp 𝕄) ⊣⊢ iprop((bigSep (Finset.range 16) fun i => kR c i f) ∗ kW c f) := by
  rw [← k_rows]; exact pointsTo_share (PosShare.mem_left_op_right fullShare)
/-- The same of the values. -/
theorem v_split (c : Dev nD) (f : S16x256x64.Idx → Elt F .bf16) :
    (((c : Thread nD τ).loc cc0_stg2_0) ↦{fullShare} f : sProp 𝕄) ⊣⊢ iprop((bigSep (Finset.range 16) fun i => vR c i f) ∗ vW c f) := by
  rw [← v_rows]; exact pointsTo_share (PosShare.mem_left_op_right fullShare)

/-! ## Rows with different contents -/

/-- The contents `f` on the rows device `c` computes and `g` on the others. -/
def mix {e : EltTy} (c : Dev nD) (f g : S16x256x64.Idx → Elt F e) : S16x256x64.Idx → Elt F e := fun x =>
  if base c ≤ (x 0).val ∧ (x 0).val < base c + 8 then f x else g x

/-- On a row of its own a device's mixed contents are the first. -/
theorem mix_own {e : EltTy} (c : Dev nD) (f g : S16x256x64.Idx → Elt F e) {j : ℕ} (hj : j < 8) (x : S16x256x64.Idx) (hx : x ∈ row (base c + j)) :
    f x = mix c f g x := by
  unfold mix; rw [if_pos]; have := mem_row.mp hx; omega
/-- On the other rows they are the second. -/
theorem mix_other {e : EltTy} (c : Dev nD) (f g : S16x256x64.Idx → Elt F e) {j : ℕ} (hj : j < 8) (x : S16x256x64.Idx) (hx : x ∈ row (base (yn c) + j)) :
    g x = mix c f g x := by
  unfold mix; rw [if_neg]; have := mem_row.mp hx; rw [base_yn] at this; have := base_cases c; omega

/-- Rows held at two contents, as all rows at the mixed contents. -/
theorem rows_join {e : EltTy} (c : Dev nD) (R : ℕ → (S16x256x64.Idx → Elt F e) → sProp 𝕄)
    (hR : ∀ i f g, (∀ x ∈ row i, f x = g x) → R i f = R i g) (f g : S16x256x64.Idx → Elt F e) :
    iprop((bigSep rows8 fun j => R (base c + j) f) ∗ (bigSep rows8 fun j => R (base (yn c) + j) g))
      = bigSep (Finset.range 16) fun i => R i (mix c f g) := by
  rw [rows16 c]
  congr 1
  · exact bigSep_congr fun j hj => hR _ _ _ fun x hx => mix_own c f g (Finset.mem_Ico.mp hj).2 x hx
  · exact bigSep_congr fun j hj => hR _ _ _ fun x hx => mix_other c f g (Finset.mem_Ico.mp hj).2 x hx

/-- The keys' landing buffer put together from its rows. -/
theorem kr_join (c : Dev nD) (f g : S16x256x64.Idx → Elt F .bf16) :
    iprop((bigSep rows8 fun j => krR c (base c + j) f) ∗ (bigSep rows8 fun j => krR c (base (yn c) + j) g))
      = (((c : Thread nD τ).loc cc0_scratch0) ↦{fullShare} mix c f g : sProp 𝕄) :=
  (rows_join c (krR c) (fun i f g h => by unfold krR; exact pointsTo_congr h) f g).trans (kr_rows c _).symm
/-- The values' landing buffer put together. -/
theorem vr_join (c : Dev nD) (f g : S16x256x64.Idx → Elt F .bf16) :
    iprop((bigSep rows8 fun j => vrR c (base c + j) f) ∗ (bigSep rows8 fun j => vrR c (base (yn c) + j) g))
      = (((c : Thread nD τ).loc cc0_scratch1) ↦{fullShare} mix c f g : sProp 𝕄) :=
  (rows_join c (vrR c) (fun i f g h => by unfold vrR; exact pointsTo_congr h) f g).trans (vr_rows c _).symm
/-- The result buffer put together. -/
theorem o_join (c : Dev nD) (f g : S16x256x64.Idx → Elt F .f32) :
    iprop((bigSep rows8 fun j => oR c (base c + j) f) ∗ (bigSep rows8 fun j => oR c (base (yn c) + j) g))
      = (((c : Thread nD τ).loc cc0_stg3_0) ↦{fullShare} mix c f g : sProp 𝕄) :=
  (rows_join c (oR c) (fun i f g h => by unfold oR; exact pointsTo_congr h) f g).trans (o_rows c _).symm

/-! ## The buffers of a device, apart and together -/

variable (QS KS VS : Dev nD → S16x256x64.Idx → Elt F .bf16)

/-- The buffers the body uses, whole: the staged inputs at their contents, the result and the landing buffers at any. -/
def wholes (c : Dev nD) (o : S16x256x64.Idx → Elt F .f32) (kr vr : S16x256x64.Idx → Elt F .bf16) : sProp 𝕄 :=
  iprop(qP c (QS c) ∗ (((c : Thread nD τ).loc cc0_stg1_0) ↦{fullShare} KS c) ∗ (((c : Thread nD τ).loc cc0_stg2_0) ↦{fullShare} VS c)
    ∗ (((c : Thread nD τ).loc cc0_stg3_0) ↦{fullShare} o) ∗ (((c : Thread nD τ).loc cc0_scratch0) ↦{fullShare} kr) ∗ (((c : Thread nD τ).loc cc0_scratch1) ↦{fullShare} vr))

/-- The rows no copy touches: the other eight rows of the staged keys and values and of the landing buffers. -/
def idle (c : Dev nD) (kr vr : S16x256x64.Idx → Elt F .bf16) : sProp 𝕄 :=
  iprop((bigSep rows8 fun j => kR c (base (yn c) + j) (KS c)) ∗ (bigSep rows8 fun j => vR c (base (yn c) + j) (VS c))
    ∗ (bigSep rows8 fun j => krR c (base (yn c) + j) kr) ∗ (bigSep rows8 fun j => vrR c (base (yn c) + j) vr))

/-- At the start: the staged inputs, the rows this device works on, the rows its neighbours will fill, the idle rows. -/
theorem take_apart (c : Dev nD) (o : S16x256x64.Idx → Elt F .f32) (kr vr : S16x256x64.Idx → Elt F .bf16) :
    wholes QS KS VS c o kr vr
      ⊢ iprop((qP c (QS c) ∗ kW c (KS c) ∗ vW c (VS c))
        ∗ (bigSep rows8 fun j => iprop(kR c (base c + j) (KS c) ∗ vR c (base c + j) (VS c) ∗ ∃ f, oR c (base c + j) f))
        ∗ (bigSep rows8 fun j => iprop((∃ f, krR c (base c + j) f) ∗ ∃ f, vrR c (base c + j) f))
        ∗ (bigSep rows8 fun j => iprop(∃ f, oR c (base (yn c) + j) f))
        ∗ idle KS VS c kr vr) := by
  unfold wholes idle
  iintro ⟨Hq, Hk, Hv, Ho, Hkr, Hvr⟩
  ihave Hk := (k_split c (KS c)).1 $$ Hk
  ihave Hv := (v_split c (VS c)).1 $$ Hv
  ihave Ho := (Entails.of_eq (o_rows c o)) $$ Ho
  ihave Hkr := (Entails.of_eq (kr_rows c kr)) $$ Hkr
  ihave Hvr := (Entails.of_eq (vr_rows c vr)) $$ Hvr
  icases Hk with ⟨Hk, Hkw⟩
  icases Hv with ⟨Hv, Hvw⟩
  ihave Hk := (Entails.of_eq (rows16 c _)) $$ Hk
  ihave Hv := (Entails.of_eq (rows16 c _)) $$ Hv
  ihave Ho := (Entails.of_eq (rows16 c _)) $$ Ho
  ihave Hkr := (Entails.of_eq (rows16 c _)) $$ Hkr
  ihave Hvr := (Entails.of_eq (rows16 c _)) $$ Hvr
  icases Hk with ⟨Hk, Hk'⟩
  icases Hv with ⟨Hv, Hv'⟩
  icases Ho with ⟨Ho, Ho'⟩
  icases Hkr with ⟨Hkr, Hkr'⟩
  icases Hvr with ⟨Hvr, Hvr'⟩
  ihave Ho := (show (bigSep rows8 fun j => (oR c (base c + j) o : sProp 𝕄)) ⊢ bigSep rows8 fun j => iprop(∃ f, oR c (base c + j) f) from
    rows_mono fun j => by iintro H; iexists o; iexact H) $$ Ho
  ihave Ho' := (show (bigSep rows8 fun j => (oR c (base (yn c) + j) o : sProp 𝕄)) ⊢ bigSep rows8 fun j => iprop(∃ f, oR c (base (yn c) + j) f) from
    rows_mono fun j => by iintro H; iexists o; iexact H) $$ Ho'
  ihave Hkr := (show (bigSep rows8 fun j => (krR c (base c + j) kr : sProp 𝕄)) ⊢ bigSep rows8 fun j => iprop(∃ f, krR c (base c + j) f) from
    rows_mono fun j => by iintro H; iexists kr; iexact H) $$ Hkr
  ihave Hvr := (show (bigSep rows8 fun j => (vrR c (base c + j) vr : sProp 𝕄)) ⊢ bigSep rows8 fun j => iprop(∃ f, vrR c (base c + j) f) from
    rows_mono fun j => by iintro H; iexists vr; iexact H) $$ Hvr
  isplitl [Hq Hkw Hvw]
  · isplitl [Hq]; · iexact Hq
    isplitl [Hkw] <;> iassumption
  isplitl [Hk Hv Ho]
  · rw [bigSep_sep', bigSep_sep']
    isplitl [Hk]; · iexact Hk
    isplitl [Hv] <;> iassumption
  isplitl [Hkr Hvr]
  · rw [bigSep_sep']
    isplitl [Hkr] <;> iassumption
  isplitl [Ho']; · iexact Ho'
  isplitl [Hk']; · iexact Hk'
  isplitl [Hv']; · iexact Hv'
  isplitl [Hkr'] <;> iassumption

/-- At the end: the same buffers, whole again, the result at its final contents. -/
theorem put_together (c : Dev nD) (kr vr : S16x256x64.Idx → Elt F .bf16) :
    iprop((qP c (QS c) ∗ kW c (KS c) ∗ vW c (VS c))
        ∗ (bigSep rows8 fun j => iprop(kR c (base c + j) (KS c) ∗ vR c (base c + j) (VS c) ∗ krR c (base c + j) (KS (xn c)) ∗ vrR c (base c + j) (VS (xn c))
            ∗ oR c (base c + j) (outC QS KS VS c) ∗ oR c (base (yn c) + j) (outC QS KS VS (yn c))))
        ∗ idle KS VS c kr vr)
      ⊢ wholes QS KS VS c (finC QS KS VS c) (mix c (KS (xn c)) kr) (mix c (VS (xn c)) vr) := by
  unfold wholes idle
  rw [bigSep_sep', bigSep_sep', bigSep_sep', bigSep_sep', bigSep_sep']
  iintro ⟨⟨Hq, Hkw, Hvw⟩, ⟨Hk, Hv, Hkr, Hvr, Ho, Ho'⟩, Hk', Hv', Hkr', Hvr'⟩
  isplitl [Hq]; · iexact Hq
  isplitl [Hk Hk' Hkw]
  · iapply (k_split c (KS c)).2
    rw [rows16 c]
    isplitl [Hk Hk']
    · isplitl [Hk] <;> iassumption
    iexact Hkw
  isplitl [Hv Hv' Hvw]
  · iapply (v_split c (VS c)).2
    rw [rows16 c]
    isplitl [Hv Hv']
    · isplitl [Hv] <;> iassumption
    iexact Hvw
  isplitl [Ho Ho']
  · rw [show finC QS KS VS c = mix c (outC QS KS VS c) (outC QS KS VS (yn c)) from rfl, ← o_join]
    isplitl [Ho] <;> iassumption
  isplitl [Hkr Hkr']
  · rw [← kr_join]
    isplitl [Hkr] <;> iassumption
  · rw [← vr_join]
    isplitl [Hvr] <;> iassumption

end Cert.AttnProof
-- ==== Proof.Cells.lean ====
/-
The forty-eight copy cells of a device: by row and family, opened at the kernel's entry and closed at its end.
-/
module

public import proofs.«01_k».proof.Proof.Rows
public import Idealize.ShloMosaic.Lib.Ring

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (QS KS VS : Dev nD → S16x256x64.Idx → Elt F .bf16) (κ : GSem nD τ sig → ℕ)

/-- One thing for each of the six families. -/
def six (Y : ℕ → sProp 𝕄) : sProp 𝕄 := iprop(Y 0 ∗ Y 1 ∗ Y 2 ∗ Y 3 ∗ Y 4 ∗ Y 5)

/-- The six families written out. -/
theorem six_range (Y : ℕ → sProp 𝕄) : bigSep (Finset.range 6) Y = six Y := by
  rw [show Finset.range 6 = {0, 1, 2, 3, 4, 5} from by decide, bigSep_insert (by decide), bigSep_insert (by decide), bigSep_insert (by decide),
    bigSep_insert (by decide), bigSep_insert (by decide), bigSep_singleton]
  rfl

/-- `X` at the six cells of row `j`, and at all forty-eight copy cells of a device. -/
def cellRow (X : GSem nD τ sig → sProp 𝕄) (c : Dev nD) (j : ℕ) : sProp 𝕄 := six fun f => X (dcell c f j)
/-- `X` at all forty-eight copy cells of a device. -/
def each (X : GSem nD τ sig → sProp 𝕄) (c : Dev nD) : sProp 𝕄 := bigSep rows8 (cellRow X c)

/-- The copy semaphores, by row and family. -/
def osem (k : Fin 8 × Fin 6) : SemLoc sig := .dma (dsem k.2.val k.1.val)

/-- Cells of different device, family or row are different. -/
theorem dcell_inj {c c' : Dev nD} {f f' j j' : ℕ} (hf : f < 6) (hj : j < 8) (hf' : f' < 6) (hj' : j' < 8) (h : dcell c f j = dcell c' f' j') :
    c = c' ∧ f = f' ∧ j = j' := by
  have h1 : c = c' := congrArg (fun g : GSem nD τ sig => g.1.1) h
  have h2 : dsem f j = dsem f' j' := SemLoc.dma.inj (congrArg Prod.snd h)
  have h3 := congrArg Fin.val h2
  rw [dsem_val hf hj, dsem_val hf' hj'] at h3
  exact ⟨h1, by omega, by omega⟩

/-- No copy semaphore is counted twice. -/
theorem osem_inj : Function.Injective osem := fun k k' h => by
  have := dcell_inj (c := 0) (c' := 0) k.2.isLt k.1.isLt k'.2.isLt k'.1.isLt (congrArg (Prod.mk ((0 : Dev nD) : Thread nD τ)) h)
  exact Prod.ext (Fin.ext this.2.2) (Fin.ext this.2.1)

/-- The copy semaphores are the kernel's own, none of them a staging semaphore. -/
theorem osem_facts : Pipeline.OwnSemFacts spec0 osem where
  isScoped := by decide
  inj := osem_inj
  disj := by decide

/-- A device's copy semaphores, counted by row and family, are its copy cells. -/
theorem each_osem (X : GSem nD τ sig → sProp 𝕄) (c : Dev nD) :
    bigSep Finset.univ (fun k => X ((c : Thread nD τ), osem k)) = each X c := by
  rw [bigSep_univ_prod]
  unfold each cellRow rows8
  rw [← Finset.range_eq_Ico]
  refine Ring.bigSep_fin_eq_range 8 _ _ fun j hj => ?_
  rw [← six_range]
  exact (Ring.bigSep_fin_eq_range 6 _ _ fun f hf => rfl).symm

/-- The copy cells as cells of device, row and family. -/
theorem dmaCells_eq : dmaCells = Finset.univ.image fun k : Dev nD × (Fin 8 × Fin 6) => (((k.1 : Thread nD τ), osem k.2) : GSem nD τ sig) := by
  ext g
  simp only [dmaCells, dmaKeys, Finset.mem_image, Finset.mem_product, Finset.mem_univ, Finset.mem_range, true_and]
  exact ⟨fun ⟨⟨c, f, j⟩, ⟨hf, hj⟩, h⟩ => ⟨(c, ⟨j, hj⟩, ⟨f, hf⟩), h⟩, fun ⟨⟨c, j, f⟩, h⟩ => ⟨(c, f.val, j.val), ⟨f.isLt, j.isLt⟩, h⟩⟩

/-- All copy cells are the copy cells of each device. -/
theorem each_cells (X : GSem nD τ sig → sProp 𝕄) : bigSep dmaCells X = bigSep Finset.univ (each X) := by
  rw [dmaCells_eq, bigSep_image_of_injOn (fun k _ k' _ h => ?_), bigSep_univ_prod]
  · exact bigSep_congr fun c _ => each_osem X c
  · exact Prod.ext (congrArg (fun g : GSem nD τ sig => g.1.1) h) (osem_inj (congrArg Prod.snd h))

/-! ## Opening and closing -/

/-- A copy cell at zero is opened for its round. -/
theorem open_one (c : Dev nD) {f j : ℕ} (hf : f < 6) (hj : j < 8) :
    iprop(recs QS KS VS κ ∗ openTok ER (dcell c f j) ∗ semVal (dcell c f j) 0)
      ⊢ |={Set.univ}=> iprop(atPos ER (dcell c f j) 0 ∅ 0 ∗ reached ER (dcell c f j) 0) := by
  iintro ⟨#Hr, Ho, Hv⟩
  iapply (Rounds.cell_open ER (sched QS KS VS) (Set.mem_univ (κ (dcell c f j))))
  isplitr; · iapply (inv_dma QS KS VS κ c hf hj); iexact Hr
  isplitl [Ho] <;> iassumption

/-- A copy cell whose round is over gives its counter back, at zero. -/
theorem close_one (c : Dev nD) {f j : ℕ} (hf : f < 6) (hj : j < 8) :
    iprop(recs QS KS VS κ ∗ atPos ER (dcell c f j) 1 ∅ 0) ⊢ |={Set.univ}=> semVal (dcell c f j) 0 := by
  iintro ⟨#Hr, Ha⟩
  iapply (Rounds.cell_close ER (sched QS KS VS) (Set.mem_univ (κ (dcell c f j))) id (duties_later QS KS VS (dcell c f j)))
  isplitr; · iapply (inv_dma QS KS VS κ c hf hj); iexact Hr
  iexact Ha

/-- So does a barrier cell. -/
theorem close_bar (c : Dev nD) : iprop(recs QS KS VS κ ∗ atPos ER (barCell c) 1 ∅ 0) ⊢ |={Set.univ}=> semVal (barCell c) 0 := by
  iintro ⟨#Hr, Ha⟩
  iapply (Rounds.cell_close ER (sched QS KS VS) (Set.mem_univ (κ (barCell c))) id (duties_later QS KS VS (barCell c)))
  isplitr; · iapply (inv_bar QS KS VS κ c); iexact Hr
  iexact Ha

/-- A step taken at every copy cell, with the records at hand. -/
theorem each_step {X Y : GSem nD τ sig → sProp 𝕄} (c : Dev nD)
    (h : ∀ f j, f < 6 → j < 8 → iprop(recs QS KS VS κ ∗ X (dcell c f j)) ⊢ |={Set.univ}=> Y (dcell c f j)) :
    iprop(recs QS KS VS κ ∗ each X c) ⊢ |={Set.univ}=> each Y c := by
  refine BIBase.Entails.trans (bigSep_with_persistent (Ψ := fun j => iprop(|={Set.univ}=> cellRow Y c j)) fun j hj => ?_) (bigSep_fupd _ _)
  have hj := (Finset.mem_Ico.mp hj).2
  show iprop(recs QS KS VS κ ∗ cellRow X c j) ⊢ |={Set.univ}=> cellRow Y c j
  unfold cellRow six
  iintro ⟨#Hr, H0, H1, H2, H3, H4, H5⟩
  imod (h 0 j (by decide) hj) $$ [H0] with H0
  · isplitr; · iexact Hr
    iexact H0
  imod (h 1 j (by decide) hj) $$ [H1] with H1
  · isplitr; · iexact Hr
    iexact H1
  imod (h 2 j (by decide) hj) $$ [H2] with H2
  · isplitr; · iexact Hr
    iexact H2
  imod (h 3 j (by decide) hj) $$ [H3] with H3
  · isplitr; · iexact Hr
    iexact H3
  imod (h 4 j (by decide) hj) $$ [H4] with H4
  · isplitr; · iexact Hr
    iexact H4
  imod (h 5 j (by decide) hj) $$ [H5] with H5
  · isplitr; · iexact Hr
    iexact H5
  imodintro
  isplitl [H0]; · iexact H0
  isplitl [H1]; · iexact H1
  isplitl [H2]; · iexact H2
  isplitl [H3]; · iexact H3
  isplitl [H4] <;> iassumption

/-- Two things at each copy cell. -/
theorem each_pair (X Y : GSem nD τ sig → sProp 𝕄) (c : Dev nD) : each (fun g => iprop(X g ∗ Y g)) c = iprop(each X c ∗ each Y c) := by
  rw [← each_osem, ← each_osem, ← each_osem, bigSep_sep']

/-- All copy cells opened. -/
theorem open_all (c : Dev nD) :
    iprop(recs QS KS VS κ ∗ each (openTok ER) c ∗ each (semVal · 0) c) ⊢ |={Set.univ}=> each (fun g => iprop(atPos ER g 0 ∅ 0 ∗ reached ER g 0)) c := by
  rw [← each_pair]
  exact each_step QS KS VS κ c fun f j hf hj => open_one QS KS VS κ c hf hj

/-- All copy cells closed. -/
theorem close_all (c : Dev nD) : iprop(recs QS KS VS κ ∗ each (atPos ER · 1 ∅ 0) c) ⊢ |={Set.univ}=> each (semVal · 0) c :=
  each_step QS KS VS κ c fun f j hf hj => close_one QS KS VS κ c hf hj

/-! ## What the launch deals to a device -/

/-- The rights to pay for row `j`: its own send cells, the arrival cells of its neighbours. -/
def rights (c : Dev nD) (j : ℕ) : sProp 𝕄 :=
  iprop(dutyTok ER (dcell c 0 j) 0 false ∗ dutyTok ER (dcell c 1 j) 0 false ∗ dutyTok ER (dcell (xn c) 2 j) 0 false
    ∗ dutyTok ER (dcell (xn c) 3 j) 0 false ∗ dutyTok ER (dcell c 4 j) 0 false ∗ dutyTok ER (dcell (yn c) 5 j) 0 false)
/-- The credit for what will arrive in row `j`. -/
def arrivals (c : Dev nD) (j : ℕ) : sProp 𝕄 :=
  iprop(cred (tallyAt (dcell c 2 j) () cK) ∗ cred (tallyAt (dcell c 3 j) () cK) ∗ cred (tallyAt (dcell c 5 j) () cO))

/-- A device's place at its barrier, its rights and its credit. -/
def dealt (c : Dev nD) : sProp 𝕄 :=
  iprop((cred (tallyAt (barCell c) () 2) ∗ atPos ER (barCell c) 0 ∅ 0) ∗ dutyTok ER (barCell (xn c)) 0 true ∗ dutyTok ER (barCell (yn c)) 0 false
    ∗ bigSep rows8 (rights (F := F) c) ∗ bigSep rows8 (arrivals (F := F) c))

/-- From what the launch dealt, the opened cells, and the buffers taken apart: the body's start. -/
theorem start_of (c : Dev nD) :
    iprop((∃ W, owes (c : Thread nD τ) (O₀ c) W) ∗ dealt c ∗ each (fun g => iprop(atPos ER g 0 ∅ 0 ∗ reached ER g 0)) c
        ∗ (qP c (QS c) ∗ kW c (KS c) ∗ vW c (VS c))
        ∗ (bigSep rows8 fun j => iprop(kR c (base c + j) (KS c) ∗ vR c (base c + j) (VS c) ∗ ∃ f, oR c (base c + j) f))
        ∗ (bigSep rows8 fun j => iprop((∃ f, krR c (base c + j) f) ∗ ∃ f, vrR c (base c + j) f))
        ∗ (bigSep rows8 fun j => iprop(∃ f, oR c (base (yn c) + j) f)))
      ⊢ bodyStart QS KS VS c := by
  have hrow : iprop(bigSep rows8 (rights (F := F) c) ∗ bigSep rows8 (arrivals (F := F) c) ∗ each (fun g => iprop(atPos ER g 0 ∅ 0 ∗ reached ER g 0)) c
        ∗ (bigSep rows8 fun j => iprop(kR c (base c + j) (KS c) ∗ vR c (base c + j) (VS c) ∗ ∃ f, oR c (base c + j) f))
        ∗ (bigSep rows8 fun j => iprop((∃ f, krR c (base c + j) f) ∗ ∃ f, vrR c (base c + j) f))
        ∗ (bigSep rows8 fun j => iprop(∃ f, oR c (base (yn c) + j) f)))
      ⊢ iprop(bigSep rows8 (startRow KS VS c) ∗ barX (xn c) ∗ barY (yn c)) := by
    unfold barX barY each
    rw [← bigSep_sep', ← bigSep_sep', ← bigSep_sep', ← bigSep_sep', ← bigSep_sep', ← bigSep_sep', ← bigSep_sep', xn_xn, yn_yn, base_xn]
    refine rows_mono fun j => ?_
    unfold startRow rights arrivals cellRow six
    iintro ⟨⟨Ht0, Ht1, Ht2, Ht3, Ht4, Ht5⟩, ⟨Hc2, Hc3, Hc5⟩, ⟨⟨Ha0, Hr0⟩, ⟨Ha1, Hr1⟩, ⟨Ha2, Hr2⟩, ⟨Ha3, Hr3⟩, ⟨Ha4, Hr4⟩, ⟨Ha5, Hr5⟩⟩,
      Hkvo, ⟨Hkr, Hvr⟩, Ho⟩
    isplitr [Hkr Hvr Hr2 Hr3 Ho Hr5]
    · isplitl [Hkvo]; · iexact Hkvo
      isplitl [Ht0 Hr0 Ht2]
      · isplitl [Ht0]; · iexact Ht0
        isplitl [Hr0] <;> iassumption
      isplitl [Ht1 Hr1 Ht3]
      · isplitl [Ht1]; · iexact Ht1
        isplitl [Hr1] <;> iassumption
      isplitl [Ht4 Hr4 Ht5]
      · isplitl [Ht4]; · iexact Ht4
        isplitl [Hr4] <;> iassumption
      isplitl [Hc2 Ha2]; · isplitl [Hc2] <;> iassumption
      isplitl [Hc3 Ha3]; · isplitl [Hc3] <;> iassumption
      isplitl [Hc5 Ha5]; · isplitl [Hc5] <;> iassumption
      isplitl [Ha0]; · iexact Ha0
      isplitl [Ha1] <;> iassumption
    isplitl [Hkr Hvr Hr2 Hr3]
    · isplitl [Hkr]; · iexact Hkr
      isplitl [Hvr]; · iexact Hvr
      isplitl [Hr2] <;> iassumption
    isplitl [Ho] <;> iassumption
  unfold bodyStart dealt
  iintro ⟨HO, ⟨Hb, Htx, Hty, Hri, Har⟩, He, Hq, H1, H2, H3⟩
  ihave H := hrow $$ [Hri Har He H1 H2 H3]
  · isplitl [Hri]; · iexact Hri
    isplitl [Har]; · iexact Har
    isplitl [He]; · iexact He
    isplitl [H1]; · iexact H1
    isplitl [H2] <;> iassumption
  icases H with ⟨Hs, Hx, Hy⟩
  isplitl [HO]; · iexact HO
  isplitl [Hb]; · iexact Hb
  isplitl [Htx Hx]; · isplitl [Htx] <;> iassumption
  isplitl [Hty Hy]; · isplitl [Hty] <;> iassumption
  isplitl [Hq] <;> iassumption

/-- The body's end: the places at the cells apart from the buffers. -/
theorem end_rows (c : Dev nD) :
    bigSep rows8 (endRow QS KS VS c)
      ⊢ iprop((bigSep rows8 fun j => iprop(kR c (base c + j) (KS c) ∗ vR c (base c + j) (VS c) ∗ krR c (base c + j) (KS (xn c)) ∗ vrR c (base c + j) (VS (xn c))
            ∗ oR c (base c + j) (outC QS KS VS c) ∗ oR c (base (yn c) + j) (outC QS KS VS (yn c))))
        ∗ each (atPos ER · 1 ∅ 0) c) :=
  Entails.of_eq (bigSep_sep' _ _ _)

end Cert.AttnProof
-- ==== Proof.Region.lean ====
/-
The kernel region: the proof data of its four windows, the body obligation, and the region with what passes around it.
-/
module

public import proofs.«01_k».proof.Proof.Cells
public import Idealize.ShloMosaic.Lib.Pipeline.RegionTalk
public import Idealize.ShloMosaic.Lib.Pipeline.Regions
public import Idealize.ShloMosaic.Lib.StableHlo
public import Idealize.ShloMosaic.Lib.Pipeline.Value
public import Idealize.ShloMosaic.Harness.Basic

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Contents

variable (m : (ℓ : Loc nD τ sig) → Buf (Elt F) ℓ)

/-- The queries, keys and values of a device as the region finds them. -/
def qs (c : Dev nD) : S16x256x64.Idx → Elt F .bf16 := V m c main_v3
/-- The keys as the kernel takes them. -/
def ks (c : Dev nD) : S16x256x64.Idx → Elt F .bf16 := V m c main_v6
/-- The values as the kernel takes them. -/
def vs (c : Dev nD) : S16x256x64.Idx → Elt F .bf16 := V m c main_v9
/-- The result of a device as the region leaves it. -/
def os (c : Dev nD) : S16x256x64.Idx → Elt F .f32 := finC (qs m) (ks m) (vs m) c

end Contents

/-! ## The windows are their arrays -/

/-- There is one step. -/
theorem fin_t (t : Fin cfg0.N) : t = t0_0 := fin_N0 t

/-- The queries' one block is the whole array. -/
theorem emb0 (t : Fin cfg0.N) (j : S16x256x64.Idx) : ((cfg0.win 0).blk t).view.emb j = j := by
  funext a; apply Fin.ext
  match a with
  | ⟨0, _⟩ => show 0 * 16 + 1 * (j 0).val = (j 0).val; omega
  | ⟨1, _⟩ => show 0 * 256 + 1 * (j 1).val = (j 1).val; omega
  | ⟨2, _⟩ => show 0 * 64 + 1 * (j 2).val = (j 2).val; omega
/-- So is the keys'. -/
theorem emb1 (t : Fin cfg0.N) (j : S16x256x64.Idx) : ((cfg0.win 1).blk t).view.emb j = j := emb0 t j
/-- So is the values'. -/
theorem emb2 (t : Fin cfg0.N) (j : S16x256x64.Idx) : ((cfg0.win 2).blk t).view.emb j = j := emb0 t j
/-- So is the result's. -/
theorem emb3 (t : Fin cfg0.N) (j : S16x256x64.Idx) : ((cfg0.win 3).blk t).view.emb j = j := emb0 t j

/-! ## The proof data -/

variable (m : (ℓ : Loc nD τ sig) → Buf (Elt F) ℓ)

/-- What the launch deals to device `c` for the kernel, the copy cells not yet open. -/
def Tk (c : Dev nD) : sProp 𝕄 := iprop(∃ κ, recs (qs m) (ks m) (vs m) κ ∗ dealt c ∗ each (openTok ER) c)
/-- The same with the copy cells open. -/
def Xk (c : Dev nD) : sProp 𝕄 :=
  iprop(∃ κ, recs (qs m) (ks m) (vs m) κ ∗ dealt c ∗ each (fun g => iprop(atPos ER g 0 ∅ 0 ∗ reached ER g 0)) c)

/-- The landing buffers, at any contents. -/
def landing (c : Dev nD) : sProp 𝕄 :=
  iprop((∃ f : S16x256x64.Idx → Elt F .bf16, ((c : Thread nD τ).loc cc0_scratch0) ↦{fullShare} f)
    ∗ (∃ f : S16x256x64.Idx → Elt F .bf16, ((c : Thread nD τ).loc cc0_scratch1) ↦{fullShare} f))

/-- What the kernel's step starts from beside its arrays. -/
def Φ₀ (c : Dev nD) : sProp 𝕄 := iprop(landing c ∗ (∃ r, prngReg c r) ∗ Xk m c)
/-- What it leaves: every counter at zero. -/
def Φ₁ (c : Dev nD) : sProp 𝕄 := iprop(landing c ∗ (∃ r, prngReg c r) ∗ each (semVal · 0) c ∗ semVal (barCell c) 0)

/-- The region's arrays before and after its step, what rides along, and what is owed. -/
def dats (_ : Fin 1) (c : Dev nD) : Dat τ (Elt F) Unit ℕ UU ℕ cfg0 c where
  A w := V m c (Pipeline.arrRef spec0 w)
  after w _ := match w with
    | ⟨0, _⟩ => qs m c
    | ⟨1, _⟩ => ks m c
    | ⟨2, _⟩ => vs m c
    | ⟨3, _⟩ => os m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-- Owning a whole buffer is a points-to of its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body finds each input array in its staging buffer. -/
theorem before0 (c : Dev nD) (d) : (dats m 0 c).before (0 : Fin 4) t0_0 d = qs m c := by
  unfold Dat.before
  rw [if_pos (fetch0_0 t0_0)]
  funext j
  show V m c main_v3 (((cfg0.win 0).blk t0_0).view.emb j) = _
  rw [emb0]; rfl
/-- The same of the keys. -/
theorem before1 (c : Dev nD) (d) : (dats m 0 c).before (1 : Fin 4) t0_0 d = ks m c := by
  unfold Dat.before
  rw [if_pos (fetch0_1 t0_0)]
  funext j
  show V m c main_v6 (((cfg0.win 1).blk t0_0).view.emb j) = _
  rw [emb1]; rfl
/-- The same of the values. -/
theorem before2 (c : Dev nD) (d) : (dats m 0 c).before (2 : Fin 4) t0_0 d = vs m c := by
  unfold Dat.before
  rw [if_pos (fetch0_2 t0_0)]
  funext j
  show V m c main_v9 (((cfg0.win 2).blk t0_0).view.emb j) = _
  rw [emb2]; rfl

/-! ## The body -/

/-- The body with its buffers whole and its cells open at the start, whole and closed at the end. -/
theorem body_whole (κ : GSem nD τ sig → ℕ) (c : Dev nD) (o : S16x256x64.Idx → Elt F .f32) (kr vr : S16x256x64.Idx → Elt F .bf16) (Q : PUnit → sProp 𝕄) (h₀ h₁ h₂ h₃ h₄ h₅) :
    iprop(recs (qs m) (ks m) (vs m) κ ∗ dealt c ∗ each (fun g => iprop(atPos ER g 0 ∅ 0 ∗ reached ER g 0)) c ∗ (∃ W, owes (c : Thread nD τ) (O₀ c) W)
        ∗ wholes (qs m) (ks m) (vs m) c o kr vr)
      ⊢ iprop((∀ kr' vr', paid c ∗ semVal (barCell c) 0 ∗ each (semVal · 0) c ∗ wholes (qs m) (ks m) (vs m) c (os m c) kr' vr' -∗ Q ⟨⟩)
        -∗ wp frame (wpE (defs₀ (F := F)) 𝒱₀ (c : Thread nD τ) none) Set.univ
          (cc0_body (F := F) qM h₀ kM h₁ vM h₂ oM h₃ krM h₄ vrM h₅ cc0_scratch2 cc0_scratch3 cc0_scratch4 cc0_scratch5) Q) := by
  iintro ⟨#Hr, Hd, He, HO, Hw⟩ Hend
  ihave Hw := (take_apart (qs m) (ks m) (vs m) c o kr vr) $$ Hw
  icases Hw with ⟨Hq, H1, H2, H3, Hidle⟩
  ihave Hs := (start_of (qs m) (ks m) (vs m) c) $$ [HO Hd He Hq H1 H2 H3]
  · isplitl [HO]; · iexact HO
    isplitl [Hd]; · iexact Hd
    isplitl [He]; · iexact He
    isplitl [Hq]; · iexact Hq
    isplitl [H1]; · iexact H1
    isplitl [H2] <;> iassumption
  iapply (wp_fupd (Fr := frame) (E := Set.univ) (wpE := wpE (defs₀ (F := F)) 𝒱₀ (c : Thread nD τ) none))
  iapply (body_run (qs m) (ks m) (vs m) κ c (fun a => iprop(|={Set.univ}=> Q a)) h₀ h₁ h₂ h₃ h₄ h₅) $$ [Hs]
  · isplitr; · iexact Hr
    iexact Hs
  unfold bodyEnd
  iintro ⟨HO, Hb, Hq, Hrows⟩
  ihave Hrows := (end_rows (qs m) (ks m) (vs m) c) $$ Hrows
  icases Hrows with ⟨Hrows, He⟩
  imod (close_all (qs m) (ks m) (vs m) κ c) $$ [He] with He
  · isplitr; · iexact Hr
    iexact He
  imod (close_bar (qs m) (ks m) (vs m) κ c) $$ [Hb] with Hb
  · isplitr; · iexact Hr
    iexact Hb
  ihave Hw := (put_together (qs m) (ks m) (vs m) c kr vr) $$ [Hq Hrows Hidle]
  · isplitl [Hq]; · iexact Hq
    isplitl [Hrows] <;> iassumption
  imodintro
  iapply Hend
  isplitl [HO]; · iexact HO
  isplitl [Hb]; · iexact Hb
  isplitl [He]; · iexact He
  iexact Hw

/-- The body leaves each input as it was, and the result in the last buffer. -/
theorem after0 (c : Dev nD) : (dats m 0 c).after (0 : Fin 4) t0_0 = qs m c := rfl
/-- The keys stay in their staging buffer. -/
theorem after1 (c : Dev nD) : (dats m 0 c).after (1 : Fin 4) t0_0 = ks m c := rfl
/-- So do the values. -/
theorem after2 (c : Dev nD) : (dats m 0 c).after (2 : Fin 4) t0_0 = vs m c := rfl
/-- The result's staging buffer ends at the result. -/
theorem after3 (c : Dev nD) : (dats m 0 c).after (3 : Fin 4) t0_0 = os m c := rfl

/-- What the pipeline hands the body, and takes back. -/
def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
/-- What the step's body leaves. -/
def bodyPost (c : Dev nD) : sProp 𝕄 :=
  iprop(Φ₁ (F := F) c ∗ (dats m 0 c).owesAt () t0_0.succ ∗ stg c cc0_stg0_0 ((dats m 0 c).after (0 : Fin 4) t0_0)
    ∗ stg c cc0_stg1_0 ((dats m 0 c).after (1 : Fin 4) t0_0) ∗ stg c cc0_stg2_0 ((dats m 0 c).after (2 : Fin 4) t0_0)
    ∗ stg c cc0_stg3_0 ((dats m 0 c).after (3 : Fin 4) t0_0))

/-- The body runs from the one to the other. -/
theorem body_ok (c : Dev nD) (h₀ h₁ h₂ h₃ h₄ h₅) (Q : PUnit → sProp 𝕄) (hQ : ∀ a, bodyPost m c ⊢ Q a) :
    bodyPre m c ⊢ wp frame (wpE (defs₀ (F := F)) 𝒱₀ (c : Thread nD τ) none) Set.univ
          (cc0_body (F := F) qM h₀ kM h₁ vM h₂ oM h₃ krM h₄ vrM h₅ cc0_scratch2 cc0_scratch3 cc0_scratch4 cc0_scratch5) Q := by
  unfold bodyPre Φ₀ landing Xk
  iintro ⟨⟨⟨⟨%kr, Hkr⟩, ⟨%vr, Hvr⟩⟩, Hp, ⟨%κ, #Hr, Hd, He⟩⟩, Ho, ⟨%d0, %g0, %e0, Hq⟩, ⟨%d1, %g1, %e1, Hk⟩, ⟨%d2, %g2, %e2, Hv⟩, ⟨%d3, %g3, %e3, Hout⟩⟩
  have e0 : g0 = qs m c := e0.trans (before0 m c d0)
  have e1 : g1 = ks m c := e1.trans (before1 m c d1)
  have e2 : g2 = vs m c := e2.trans (before2 m c d2)
  subst e0; subst e1; subst e2
  unfold Dat.owesAt Pipeline.owesWithin
  icases Ho with ⟨%W, %hW, HO⟩
  iapply (body_whole m κ c g3 kr vr Q h₀ h₁ h₂ h₃ h₄ h₅) $$ [Hd He HO Hq Hk Hv Hout Hkr Hvr]
  · isplitr; · iexact Hr
    isplitl [Hd]; · iexact Hd
    isplitl [He]; · iexact He
    isplitl [HO]; · iexists W; iexact HO
    unfold wholes qP
    isplitl [Hq]; · iexact Hq
    isplitl [Hk]; · iexact Hk
    isplitl [Hv]; · iexact Hv
    isplitl [Hout]; · iexact Hout
    isplitl [Hkr] <;> iassumption
  iintro %kr' %vr' ⟨HO, Hb, He, Hw⟩
  iapply (hQ ⟨⟩)
  unfold bodyPost Φ₁ landing wholes qP paid Dat.owesAt Pipeline.owesWithin
  icases HO with ⟨%W', HO⟩
  icases Hw with ⟨Hq, Hk, Hv, Hout, Hkr, Hvr⟩
  isplitl [Hkr Hvr Hp He Hb]
  · isplitl [Hkr Hvr]
    · isplitl [Hkr]
      · iexists kr'; iexact Hkr
      · iexists vr'; iexact Hvr
    isplitl [Hp]; · iexact Hp
    isplitl [He] <;> iassumption
  isplitl [HO]
  · iexists W'
    isplitr; · ipureintro; exact fun _ _ => Or.inl trivial
    iexact HO
  isplitl [Hq]; · iexists _; isplitr; · (ipureintro; exact (after0 m c).symm)
                  iexact Hq
  isplitl [Hk]; · iexists _; isplitr; · (ipureintro; exact (after1 m c).symm)
                  iexact Hk
  isplitl [Hv]; · iexists _; isplitr; · (ipureintro; exact (after2 m c).symm)
                  iexact Hv
  iexists _; isplitr; · (ipureintro; exact (after3 m c).symm)
  iexact Hout

/-- The four windows written out. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- The body of the region is the kernel's. -/
theorem prog_eq : defs₀ (F := F) .tc 0 (t0_0, cfg0.slots t0_0) =
    cc0_body (F := F) qM (hstage0_0 0) kM (hstage0_1 0) vM (hstage0_2 0) oM (hstage0_3 0) krM (Memref.isWhole_whole _) vrM (Memref.isWhole_whole _)
      cc0_scratch2 cc0_scratch3 cc0_scratch4 cc0_scratch5 := rfl

/-- What rides along before the one step. -/
theorem Φ_first (c : Dev nD) : (dats m 0 c).Φ t0_0.castSucc = Φ₀ m c := rfl
/-- And after it. -/
theorem Φ_last (c : Dev nD) : (dats m 0 c).Φ t0_0.succ = Φ₁ (F := F) c := rfl
set_option maxRecDepth 40000 in
/-- The one step does what the region's record says. -/
theorem body_obligation (c : Dev nD) : BodyObligation (dats (F := F) m 0 c) (defs₀ (F := F)) 𝒱₀ () Set.univ := fun t => by
  rw [fin_t t]
  rw [bigSep_W, bigSep_W]
  simp only [owns_whole_eq]
  rw [prog_eq, Φ_first, Φ_last]
  refine BIBase.Entails.trans ?_ (body_ok m c (hstage0_0 0) (hstage0_1 0) (hstage0_2 0) (hstage0_3 0) (Memref.isWhole_whole _) (Memref.isWhole_whole _) _ fun a => ?_)
  · unfold bodyPre stg
    refine BI.sep_mono (BI.Entails.refl _) (BI.sep_mono (BI.Entails.refl _) (BI.sep_mono ?_ (BI.sep_mono ?_ (BI.sep_mono ?_ ?_))))
    · exact BI.Entails.refl _
    · exact BI.Entails.refl _
    · exact BI.Entails.refl _
    · exact BI.Entails.refl _
  · unfold bodyPost stg
    refine BI.sep_mono (BI.Entails.refl _) (BI.sep_mono (BI.Entails.refl _) (BI.sep_mono ?_ (BI.sep_mono ?_ (BI.sep_mono ?_ ?_))))
    · exact BI.Entails.refl _
    · exact BI.Entails.refl _
    · exact BI.Entails.refl _
    · exact BI.Entails.refl _

/-! ## The arrays around the region -/

/-- The contents after the region: the result array holds the result. -/
def W1 (c : Dev nD) : Valuation τ sig (Elt F) := Function.update (V0 m c) (Proc.devRef .tc main_v10) (os m c)

/-- The result array after the region. -/
theorem W1_out (c : Dev nD) : W1 m c (Proc.devRef .tc main_v10) = os m c := Function.update_self ..
/-- No other buffer is changed. -/
theorem W1_of_ne (c : Dev nD) {b : DevRef τ sig} (h : b ≠ Proc.devRef .tc main_v10) : W1 m c b = V0 m c b := Function.update_of_ne h ..

/-- What is written back is the result. -/
theorem flushed_eq (c : Dev nD) (t : Fin cfg0.N) :
    (dats m 0 c).flushed 3 t = ((cfg0.win 3).blk t).view.read (Elt F) (os m c : (cfg0.win 3).shape.Idx → Elt F (cfg0.win 3).elt) := by
  funext j
  show os m c j = os m c (((cfg0.win 3).blk t).view.emb j)
  rw [emb3]

/-- The one write-back covers the result array. -/
theorem covered (i : S16x256x64.Idx) : ∃ t : Fin cfg0.N, (cfg0.win 3).flush t = true ∧ i ∈ ((cfg0.win 3).blk t).view.set :=
  ⟨t0_0, flush0_3 _, by have h := ((cfg0.win 3).blk t0_0).view.emb_mem_set i; rwa [emb3] at h⟩

/-- The result array ends at the result. -/
theorem final3 (c : Dev nD) : (dats m 0 c).arrAt 3 cfg0.N = os m c :=
  (dats m 0 c).arrAt_eq_of_cover 3 (os m c) (fun t _ => flushed_eq m c t) covered

/-! ## The region -/

/-- The pipeline is admissible. -/
abbrev adm : (p : Fin 1) → (pcfgs (F := F) p).Adm := fun p => (cfgs p).toPCfg_adm

/-- The unscoped buffers that are no window's array. -/
abbrev Sr : Finset (DevRef τ sig) := Pipeline.ucRefs τ sig \ Pipeline.arrRefs (τ := τ) spec0

/-- The copy cells are opened on the way in. -/
theorem opened (c : Dev nD) : iprop(Tk m c ∗ Pipeline.ownSems0 osem c ∗ levAts L lv) ⊢ (|={Set.univ}=> Xk m c : sProp 𝕄) := by
  rw [show (Pipeline.ownSems0 osem c : sProp 𝕄) = each (semVal · 0) c from each_osem (fun g => semVal g 0) c]
  unfold Tk Xk
  iintro ⟨⟨%κ, #Hr, Hd, Ho⟩, Hs, -⟩
  imod (open_all (qs m) (ks m) (vs m) κ c) $$ [Ho Hs] with H
  · isplitr; · iexact Hr
    isplitl [Ho] <;> iassumption
  imodintro
  iexists κ
  isplitr; · iexact Hr
  isplitl [Hd] <;> iassumption

/-- What comes in makes up what the step starts from. -/
theorem enters (c : Dev nD) : iprop(Pipeline.scopedRest spec0 c ∗ (∃ r, prngReg c r) ∗ StableHlo.held (c.tc : Thread nD τ) ∅ (V0 m c) ∗ Xk m c) ⊢ Φ₀ m c := by
  rw [scopedRest0_eq]
  unfold Φ₀ landing
  iintro ⟨Hs, Hp, -, HX⟩
  isplitl [Hs]; · iexact Hs
  isplitl [Hp] <;> iassumption

/-- What the step leaves makes up what goes out. -/
theorem leaves (c : Dev nD) : Φ₁ (F := F) c ⊢ iprop(Pipeline.scopedRest spec0 c ∗ (∃ r, prngReg c r) ∗ StableHlo.held (c.tc : Thread nD τ) ∅ (W1 m c)
    ∗ Pipeline.ownSems0 osem c ∗ semVal (barCell c) 0) := by
  rw [scopedRest0_eq, show (Pipeline.ownSems0 osem c : sProp 𝕄) = each (semVal · 0) c from each_osem (fun g => semVal g 0) c]
  unfold Φ₁ landing StableHlo.held
  rw [BI.bigSep_empty]
  iintro ⟨Hs, Hp, He, Hb⟩
  isplitl [Hs]; · iexact Hs
  isplitl [Hp]; · iexact Hp
  isplitr; · iempintro
  isplitl [He] <;> iassumption

/-- All that is owed is above level zero. -/
theorem owed_level (c : Dev nD) (t : Fin (cfg0.N + 1)) (g : GSem nD τ sig) (i : Unit) (h : 0 < (dats m 0 c).owed t g i) : i ∈ L g ∧ 0 < lv g i := by
  match t, h with
  | ⟨0, _⟩, h => exact O₀_pos h
  | ⟨_ + 1, _⟩, h => exact absurd h (Nat.lt_irrefl 0)

/-- The staging semaphores are at level zero. -/
theorem stage_level (c : Dev nD) (w : Fin cfg0.W) (s : Fin (cfg0.win w).nbuf) : lv ((c : Thread nD τ), .dma ((cfg0.win w).sem s)) () ≤ 0 := by
  match w, s with
  | ⟨0, _⟩, ⟨0, _⟩ => exact Nat.le_refl 0
  | ⟨1, _⟩, ⟨0, _⟩ => exact Nat.le_refl 0
  | ⟨2, _⟩, ⟨0, _⟩ => exact Nat.le_refl 0
  | ⟨3, _⟩, ⟨0, _⟩ => exact Nat.le_refl 0

/-- Each array starts at what the host operations left. -/
theorem starts_at (c : Dev nD) (w : Fin 4) : (dats m 0 c).arrAt w 0 = V0 m c (Proc.devRef .tc (Pipeline.arrRef spec0 w)) := rfl

/-- Each array ends at the contents after the region. -/
theorem ends_at (c : Dev nD) (w : Fin 4) : (dats m 0 c).arrAt w cfg0.N = W1 m c (Proc.devRef .tc (Pipeline.arrRef spec0 w)) := by
  match w with
  | ⟨0, _⟩ => exact ((dats m 0 c).arrAt_in 0 rfl _).trans (W1_of_ne m c (by decide)).symm
  | ⟨1, _⟩ => exact ((dats m 0 c).arrAt_in 1 rfl _).trans (W1_of_ne m c (by decide)).symm
  | ⟨2, _⟩ => exact ((dats m 0 c).arrAt_in 2 rfl _).trans (W1_of_ne m c (by decide)).symm
  | ⟨3, _⟩ => exact (final3 m c).trans (W1_out m c).symm

/-- The arrays are held whole. -/
theorem full_share (c : Dev nD) (w : Fin 4) : (dats m 0 c).share w = fullShare := by unfold Dat.share; split <;> rfl

set_option maxRecDepth 40000 in
set_option backward.isDefEq.respectTransparency.types false in
/-- The kernel region, entered with what the launch dealt and left with the barrier's counter at zero. -/
def reg0 : Pipeline.RegionSeg (pcfgs (F := F)) adm (dats m) () defs₀ 𝒱₀ L lv 0 :=
  Pipeline.RegionSeg.ofTalk (pcfgs (F := F)) adm (dats m) () defs₀ 𝒱₀ L lv 0 osem osem_facts
    ∅ Sr (Finset.empty_subset _) launch0.toP rfl (fun c => (body_obligation m c).loose)
    (fun _ => 0) O₀ (fun c => (zero_add _).symm) (fun _ => rfl) (fun _ => rfl) (full_share m)
    (V0 m) (W1 m) (fun c b hb => W1_of_ne m c (fun h => by subst h; revert hb; decide))
    (Tk m) (fun c => semVal (barCell c) 0) (Xk m) (fun c => semVal (barCell c) 0) (opened m) (enters m) (leaves m)
    (fun c => by iintro H; imodintro; iexact H)
    (fun _ => 0)
    ⟨fun c w s => by rw [L_tc]; exact Finset.mem_singleton_self _, fun c w s => stage_level c w s, fun c t g i h => owed_level m c t g i h⟩
    (fun _ => iprop(emp)) (starts_at m) (ends_at m)

/-! ## The program as segments -/

/-- What rides beside the buffers before the region. -/
def riding (c : Dev nD) : sProp 𝕄 := iprop((∃ r, prngReg c r) ∗ Tk m c ∗ ∃ W, owes (c : Thread nD τ) (O₀ c) W)
/-- And after it. -/
def left_ (c : Dev nD) : sProp 𝕄 := iprop(semVal (barCell c) 0 ∗ ∃ W, owes (c : Thread nD τ) (0 : CellTallies nD τ sig Unit) W)

/-- The host operations before the region touch buffers of the whole run only. -/
theorem ops0_sub (op) (h : op ∈ (hostOps0 : List (HloOp τ sig (Elt F)))) : op.bufs ⊆ Pipeline.ucRefs τ sig :=
  Pipeline.sub_ucRefs op (List.forall_iff_forall_mem.mp hostOps0_sub op h)
/-- So do those after it. -/
theorem ops1_sub (op) (h : op ∈ (hostOps1 : List (HloOp τ sig (Elt F)))) : op.bufs ⊆ Pipeline.ucRefs τ sig :=
  Pipeline.sub_ucRefs op (List.forall_iff_forall_mem.mp hostOps1_sub op h)

/-- The host operations before the region. -/
def seg0 : Pipeline.HostSeg (Name := ℕ) (U := UU) (pcfgs (F := F)) defs₀ 𝒱₀ L lv :=
  Pipeline.HostSeg.ofOps _ _ _ _ _ (Pipeline.ucRefs τ sig) hostOps0 ops0_sub (List.forall_iff_forall_mem.mp hostOps0_fresh) (fun c b => m (c, b)) (riding m)
/-- The host operations after it. -/
def seg2 : Pipeline.HostSeg (Name := ℕ) (U := UU) (pcfgs (F := F)) defs₀ 𝒱₀ L lv :=
  Pipeline.HostSeg.ofOps _ _ _ _ _ (Pipeline.ucRefs τ sig) hostOps1 ops1_sub (List.forall_iff_forall_mem.mp hostOps1_fresh) (W1 m) left_

/-- The program in three segments. -/
def segs : List (Pipeline.Seg (pcfgs (F := F)) adm (dats m) () defs₀ 𝒱₀ L lv) := [.host (seg0 m), .region (reg0 m), .host (seg2 m)]

/-- The program is these segments run in turn. -/
theorem main_eq (c : Dev nD) : main (F := F) c = Pipeline.Seg.run (segs m) := main_segs adm (dats m) () 𝒱₀ L lv (seg0 m) (seg2 m) (reg0 m) rfl rfl c

/-- The region's arrays are buffers of the whole run. -/
theorem arr_sub : Pipeline.arrRefs (τ := τ) spec0 ⊆ Pipeline.ucRefs τ sig := Pipeline.arrRefs_sub_ucRefs spec0 launch0.win.arr_unscoped

/-- The first segment's end is the region's start. -/
theorem into_region (c : Dev nD) : (seg0 m).post c ⊢ (reg0 m).pre c := by
  show iprop(StableHlo.held (c.tc : Thread nD τ) (Pipeline.ucRefs τ sig) (V0 m c) ∗ riding m c)
    ⊢ iprop(StableHlo.held (c.tc : Thread nD τ) (Pipeline.arrRefs (τ := τ) spec0) (V0 m c) ∗ (∃ r, prngReg c r)
      ∗ (StableHlo.held (c.tc : Thread nD τ) Sr (V0 m c) ∗ emp) ∗ Tk m c ∗ ∃ Wd, owes (c : Thread nD τ) (0 + O₀ c) Wd)
  rw [StableHlo.held_sub_split (c.tc : Thread nD τ) arr_sub, zero_add]
  unfold riding
  iintro ⟨⟨Ha, Hs⟩, Hp, HT, HO⟩
  isplitl [Ha]; · iexact Ha
  isplitl [Hp]; · iexact Hp
  isplitl [Hs]
  · isplitl [Hs]; · iexact Hs
    iempintro
  isplitl [HT] <;> iassumption

/-- The region's end is the last segment's start. -/
theorem out_of_region (c : Dev nD) : (reg0 m).post c ⊢ (seg2 m).pre c := by
  show iprop(StableHlo.held (c.tc : Thread nD τ) (Pipeline.arrRefs (τ := τ) spec0) (W1 m c) ∗ (∃ r, prngReg c r)
      ∗ (StableHlo.held (c.tc : Thread nD τ) Sr (W1 m c) ∗ emp) ∗ semVal (barCell c) 0 ∗ ∃ Wd, owes (c : Thread nD τ) (0 : CellTallies nD τ sig Unit) Wd)
    ⊢ iprop(StableHlo.held (c.tc : Thread nD τ) (Pipeline.ucRefs τ sig) (W1 m c) ∗ left_ c)
  rw [StableHlo.held_sub_split (c.tc : Thread nD τ) arr_sub (W1 m c)]
  unfold left_
  iintro ⟨Ha, -, ⟨Hs, -⟩, Hb, HO⟩
  isplitl [Ha Hs]
  · isplitl [Ha] <;> iassumption
  isplitl [Hb] <;> iassumption

end Cert.AttnProof
-- ==== Proof.Launch.lean ====
/-
The launch: every cell's invariant made, each device dealt its places, rights and credit; and the run of the whole program.
-/
module

public import proofs.«01_k».proof.Proof.Region

@[expose] public section

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Smoke (bigSep_pair bigSep_unpair)

/-! ## What each device owes each cell at launch -/

/-- A debt read at one cell is the sum of its rows' debts there. -/
theorem owing_apply (t : ℕ → CellTallies nD τ sig Unit) (n : ℕ) (g : GSem nD τ sig) (u : Unit) : owing t n g u = ∑ j ∈ Finset.Ico n 8, t j g u := by
  unfold owing
  rw [Finset.sum_apply, Finsupp.finset_sum_apply]

/-- A tally at one copy cell, read at another. -/
theorem tally_dcell {c c' : Dev nD} {f f' j j' : ℕ} (hf : f < 6) (hj : j < 8) (hf' : f' < 6) (hj' : j' < 8) (n : ℕ) :
    (tallyAt (dcell c' f' j') () n : CellTallies nD τ sig Unit) (dcell c f j) () = if c' = c ∧ f' = f ∧ j' = j then n else 0 := by
  rw [tallyAt_apply]
  refine if_congr ⟨fun h => ?_, fun h => ?_⟩ rfl rfl
  · obtain ⟨h1, h2, h3⟩ := dcell_inj hf hj hf' hj' h.1
    exact ⟨h1.symm, h2.symm, h3.symm⟩
  · obtain ⟨rfl, rfl, rfl⟩ := h
    exact ⟨rfl, rfl⟩

/-- No barrier cell is a copy cell. -/
theorem bar_ne_dcell (c c' : Dev nD) (f j : ℕ) : barCell c ≠ dcell c' f j := fun h => by
  have h' : (SemLoc.reg barS : SemLoc sig) = .dma (dsem f j) := congrArg Prod.snd h
  cases h'

/-- A tally at a barrier cell is nothing at a copy cell. -/
theorem tally_bar_dcell (c c' : Dev nD) (f j n : ℕ) : (tallyAt (barCell c') () n : CellTallies nD τ sig Unit) (dcell c f j) () = 0 := by
  rw [tallyAt_ne_cell (bar_ne_dcell c' c f j).symm]; rfl

/-- A tally at a copy cell is nothing at a barrier cell. -/
theorem tally_dcell_bar (c c' : Dev nD) (f j n : ℕ) : (tallyAt (dcell c' f j) () n : CellTallies nD τ sig Unit) (barCell c) () = 0 := by
  rw [tallyAt_ne_cell (bar_ne_dcell c c' f j)]; rfl

/-- A tally at one barrier cell, read at another. -/
theorem tally_bar (c c' : Dev nD) (n : ℕ) : (tallyAt (barCell c') () n : CellTallies nD τ sig Unit) (barCell c) () = if c' = c then n else 0 := by
  rw [tallyAt_apply]
  exact if_congr ⟨fun h => (congrArg (fun g : GSem nD τ sig => g.1.1) h.1).symm, fun h => by subst h; exact ⟨rfl, rfl⟩⟩ rfl rfl

/-- The launch debt read at one cell. -/
theorem O₀_apply (d : Dev nD) (g : GSem nD τ sig) : O₀ d g () = (∑ j ∈ Finset.Ico 0 8, tY d j g ()) + (∑ j ∈ Finset.Ico 0 8, tX d j g ())
    + (tallyAt (barCell (yn d)) () 1 : CellTallies nD τ sig Unit) g () + (tallyAt (barCell (xn d)) () 1 : CellTallies nD τ sig Unit) g () := by
  unfold O₀
  rw [Pi.add_apply, Finsupp.add_apply, Pi.add_apply, Finsupp.add_apply, Pi.add_apply, Finsupp.add_apply, owing_apply, owing_apply]

/-- A cell's launch credit, from what all devices owe it. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- Whose first neighbour a device is. -/
theorem xn_eq_iff {d c : Dev nD} : xn d = c ↔ d = xn c := ⟨fun h => by rw [← h, xn_xn], fun h => by rw [h, xn_xn]⟩
/-- Whose second neighbour a device is. -/
theorem yn_eq_iff {d c : Dev nD} : yn d = c ↔ d = yn c := ⟨fun h => by rw [← h, yn_yn], fun h => by rw [h, yn_yn]⟩

/-- All devices together owe each barrier cell two. -/
theorem owed_bar (c : Dev nD) : ∑ d : Dev nD, O₀ d (barCell c) () = 2 := by
  have h (d : Dev nD) : O₀ d (barCell c) () = (if d = yn c then 1 else 0) + if d = xn c then 1 else 0 := by
    rw [O₀_apply, tally_bar, tally_bar, Finset.sum_eq_zero (f := fun j => tY d j (barCell c) ()) fun j _ => tally_dcell_bar c (yn d) 5 j cO,
      Finset.sum_eq_zero (f := fun j => tX d j (barCell c) ()) fun j _ => ?_, Nat.zero_add, Nat.zero_add]
    · exact congrArg₂ (· + ·) (if_congr yn_eq_iff rfl rfl) (if_congr xn_eq_iff rfl rfl)
    · unfold tX
      rw [Pi.add_apply, Finsupp.add_apply, tally_dcell_bar, tally_dcell_bar, Nat.add_zero]
  rw [Finset.sum_congr rfl fun d _ => h d, Finset.sum_add_distrib, Finset.sum_ite_eq', Finset.sum_ite_eq', if_pos (Finset.mem_univ _), if_pos (Finset.mem_univ _)]

/-- They owe each result arrival cell a row of the result. -/
theorem owed_res (c : Dev nD) {j : ℕ} (hj : j < 8) : ∑ d : Dev nD, O₀ d (dcell c 5 j) () = cO := by
  have h (d : Dev nD) : O₀ d (dcell c 5 j) () = if d = yn c then cO else 0 := by
    rw [O₀_apply, tally_bar_dcell, tally_bar_dcell, Finset.sum_eq_single j, Finset.sum_eq_zero]
    · unfold tY
      rw [tally_dcell (by decide) hj (by decide) hj]
      exact if_congr ⟨fun h => yn_eq_iff.mp h.1, fun h => ⟨yn_eq_iff.mpr h, rfl, rfl⟩⟩ rfl rfl
    · intro i hi
      have hi' : i < 8 := (Finset.mem_Ico.mp hi).2
      unfold tX
      rw [Pi.add_apply, Finsupp.add_apply, tally_dcell (by decide) hj (by decide) hi', tally_dcell (by decide) hj (by decide) hi',
        if_neg (fun h => absurd h.2.1 (by decide)), if_neg (fun h => absurd h.2.1 (by decide)), Nat.add_zero]
    · intro i hi hij
      have hi' : i < 8 := (Finset.mem_Ico.mp hi).2
      unfold tY
      rw [tally_dcell (by decide) hj (by decide) hi', if_neg (fun h => hij h.2.2)]
    · intro hn; exact absurd (Finset.mem_Ico.mpr ⟨Nat.zero_le _, hj⟩) hn
  rw [Finset.sum_congr rfl fun d _ => h d, Finset.sum_ite_eq', if_pos (Finset.mem_univ _)]

/-- They owe each key or value arrival cell a row. -/
theorem owed_arr (c : Dev nD) {f j : ℕ} (hf : f = 2 ∨ f = 3) (hj : j < 8) : ∑ d : Dev nD, O₀ d (dcell c f j) () = cK := by
  have hf6 : f < 6 := by omega
  have hX (d : Dev nD) {i : ℕ} (hi' : i < 8) : tX d i (dcell c f j) () = if d = xn c ∧ i = j then cK else 0 := by
    unfold tX
    rw [Pi.add_apply, Finsupp.add_apply, tally_dcell hf6 hj (by decide) hi', tally_dcell hf6 hj (by decide) hi']
    by_cases h : d = xn c ∧ i = j
    · rw [if_pos h]
      rcases hf with rfl | rfl
      · rw [if_neg (fun h => absurd h.2.1 (by decide)), if_pos ⟨xn_eq_iff.mpr h.1, rfl, h.2⟩, Nat.zero_add]
      · rw [if_neg (c := xn d = c ∧ 2 = 3 ∧ i = j) (fun h => absurd h.2.1 (by decide)), if_pos ⟨xn_eq_iff.mpr h.1, rfl, h.2⟩, Nat.add_zero]
    · rw [if_neg h, if_neg (fun h' => h ⟨xn_eq_iff.mp h'.1, h'.2.2⟩), if_neg (fun h' => h ⟨xn_eq_iff.mp h'.1, h'.2.2⟩)]
  have h (d : Dev nD) : O₀ d (dcell c f j) () = if d = xn c then cK else 0 := by
    rw [O₀_apply, tally_bar_dcell, tally_bar_dcell, Finset.sum_eq_zero (s := Finset.Ico 0 8) (f := fun j' => tY d j' (dcell c f j) ()), Finset.sum_eq_single j]
    · rw [hX d hj, Nat.zero_add]
      exact if_congr (and_iff_left rfl) rfl rfl
    · intro i hi hij
      rw [hX d (Finset.mem_Ico.mp hi).2, if_neg (fun h => hij h.2)]
    · intro hn; exact absurd (Finset.mem_Ico.mpr ⟨Nat.zero_le _, hj⟩) hn
    · intro i hi
      unfold tY
      rw [tally_dcell hf6 hj (by decide) (Finset.mem_Ico.mp hi).2, if_neg (fun h => by omega)]
  rw [Finset.sum_congr rfl fun d _ => h d, Finset.sum_ite_eq', if_pos (Finset.mem_univ _)]

/-- An entailment at each of the eight rows is one of all of them. -/
theorem rows_mono_lt {Φ Ψ : ℕ → sProp 𝕄} (h : ∀ j, j < 8 → (Φ j ⊢ Ψ j)) : bigSep rows8 Φ ⊢ bigSep rows8 Ψ :=
  bigSep_mono fun j hj => h j (Finset.mem_Ico.mp hj).2

/-- A device's launch credit: two at its barrier, and what will arrive in each row. -/
theorem creds (c : Dev nD) :
    (Pipeline.launchCred O₀ c : sProp 𝕄) ⊢ iprop(cred (tallyAt (barCell c) () 2) ∗ bigSep rows8 (arrivals (F := F) c)) := by
  unfold Pipeline.launchCred
  rw [bigSep_univ_at _ (SemLoc.reg barS), launch_at (barCell c) 2 (owed_bar c)]
  refine sep_mono_right ?_
  refine BIBase.Entails.trans (BI.bigSep_subset (t := Finset.univ.image osem) fun x hx => ?_) ?_
  · obtain ⟨k, -, rfl⟩ := Finset.mem_image.mp hx
    exact Finset.mem_erase.mpr ⟨(fun h => by unfold osem at h; cases h), Finset.mem_univ _⟩
  rw [bigSep_image_of_injOn (fun k _ k' _ h => osem_inj h),
    each_osem (fun g => cred (tallyOn g (launchCredit (Pipeline.owing O₀) 0 g))) c]
  unfold each
  refine rows_mono_lt fun j hj => ?_
  unfold cellRow six arrivals
  dsimp only
  rw [launch_at _ cK (owed_arr c (.inl rfl) hj), launch_at _ cK (owed_arr c (.inr rfl) hj), launch_at _ cO (owed_res c hj)]
  iintro ⟨-, -, H2, H3, -, H5⟩
  isplitl [H2]; · iexact H2
  isplitl [H3] <;> iassumption

/-! ## The rights -/

/-- Every duty's token: two at each barrier, one at each copy cell. -/
def barToks (b : Bool) : Finset (GSem nD τ sig × ℕ × Bool) := barCells.image fun g => (g, 0, b)
/-- The right to pay each copy cell. -/
def dmaToks : Finset (GSem nD τ sig × ℕ × Bool) := dmaCells.image fun g => (g, 0, false)
/-- All rights to pay. -/
def toks : Finset (GSem nD τ sig × ℕ × Bool) := (barToks true ∪ barToks false) ∪ dmaToks

/-- Barrier cells and copy cells are apart. -/
theorem disjoint_cells : Disjoint barCells dmaCells := by
  rw [Finset.disjoint_left]
  intro g h₁ h₂
  obtain ⟨c, -, rfl⟩ := Finset.mem_image.mp h₁
  obtain ⟨k, -, h⟩ := Finset.mem_image.mp h₂
  exact bar_ne_dcell _ _ _ _ h.symm

/-- Each device has its own barrier cell. -/
theorem barCell_inj : Function.Injective barCell := fun c c' h => congrArg (fun g : GSem nD τ sig => g.1.1) h

/-- All barrier cells are those of each device. -/
theorem bars_eq (X : GSem nD τ sig → sProp 𝕄) : bigSep barCells X = bigSep Finset.univ fun c => X (barCell c) := by
  unfold barCells
  rw [bigSep_image_of_injOn (fun c _ c' _ h => barCell_inj h)]

/-- All rights, by cell. -/
theorem toks_eq : bigSep toks (fun x => (dutyTok ER x.1 x.2.1 x.2.2 : sProp 𝕄))
    = iprop(((bigSep Finset.univ fun c => dutyTok ER (barCell c) 0 true) ∗ bigSep Finset.univ fun c => dutyTok ER (barCell c) 0 false)
      ∗ bigSep Finset.univ (each fun g => dutyTok ER g 0 false)) := by
  have hb (b : Bool) : bigSep (barToks b) (fun x => (dutyTok ER x.1 x.2.1 x.2.2 : sProp 𝕄)) = bigSep Finset.univ fun c => dutyTok ER (barCell c) 0 b := by
    unfold barToks
    rw [bigSep_image_of_injOn (fun g _ g' _ h => congrArg Prod.fst h), bars_eq]
  unfold toks
  rw [BI.bigSep_union ?_, BI.bigSep_union ?_, hb, hb]
  · unfold dmaToks
    rw [bigSep_image_of_injOn (fun g _ g' _ h => congrArg Prod.fst h), each_cells (fun g => (dutyTok ER g 0 false : sProp 𝕄))]
    rfl
  · rw [Finset.disjoint_left]
    intro x h₁ h₂
    obtain ⟨g, -, rfl⟩ := Finset.mem_image.mp h₁
    obtain ⟨g', -, h⟩ := Finset.mem_image.mp h₂
    exact Bool.noConfusion (congrArg (fun x : GSem nD τ sig × ℕ × Bool => x.2.2) h)
  · rw [Finset.disjoint_left]
    intro x h₁ h₂
    obtain ⟨g', hg', rfl⟩ := Finset.mem_image.mp h₂
    rcases Finset.mem_union.mp h₁ with h | h <;>
    · obtain ⟨g, hg, h⟩ := Finset.mem_image.mp h
      obtain rfl : g = g' := congrArg Prod.fst h
      exact Finset.disjoint_left.mp disjoint_cells hg hg'

/-- Each device gets the rights to what it will signal. -/
theorem toks_around : bigSep toks (fun x => (dutyTok ER x.1 x.2.1 x.2.2 : sProp 𝕄))
    ⊢ bigSep Finset.univ fun c : Dev nD => iprop(dutyTok ER (barCell (xn c)) 0 true ∗ dutyTok ER (barCell (yn c)) 0 false ∗ bigSep rows8 (rights (F := F) c)) := by
  rw [toks_eq]
  unfold each cellRow six rights
  simp only [bigSep_sep']
  rw [bigSep_univ_equiv xswap (fun c : Dev nD => (dutyTok ER (barCell c) 0 true : sProp 𝕄)),
    bigSep_univ_equiv yswap (fun c : Dev nD => (dutyTok ER (barCell c) 0 false : sProp 𝕄)),
    bigSep_univ_equiv xswap (fun c : Dev nD => bigSep rows8 fun j => (dutyTok ER (dcell c 2 j) 0 false : sProp 𝕄)),
    bigSep_univ_equiv xswap (fun c : Dev nD => bigSep rows8 fun j => (dutyTok ER (dcell c 3 j) 0 false : sProp 𝕄)),
    bigSep_univ_equiv yswap (fun c : Dev nD => bigSep rows8 fun j => (dutyTok ER (dcell c 5 j) 0 false : sProp 𝕄))]
  exact sep_assoc.1

/-! ## The launch -/

variable (m : (ℓ : Loc nD τ sig) → Buf (Elt F) ℓ) (ρ : Dev nD → PrngReg)

/-- The launch element: the pipeline's at its staging cells, the protocol's at all the others. -/
def u₀ : UU :=
  (initOf (Pipeline.cells (Pipeline.pin (pcfgs (F := F)) adm) cellOf_inj) (Pipeline.launchToks (Pipeline.pin (pcfgs (F := F)) adm) cellOf_inj),
    launchOf barCells dmaCells toks)

/-- The protocol's element reaches the launch whole, through device 0. -/
def G (c : Dev nD) : sProp 𝕄 := if c = 0 then BI.own (ER (launchOf barCells dmaCells toks)) else iprop(emp)
/-- The parts together are the protocol's element. -/
theorem G_all : bigSep Finset.univ (G (F := F)) = BI.own (ER (launchOf barCells dmaCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What a device holds at the start. -/
abbrev T₀ (c : Dev nD) : sProp 𝕄 := (seg0 m).pre c
/-- What a device holds at the end. -/
abbrev Tₙ (c : Dev nD) : sProp 𝕄 := iprop(StableHlo.held (c : Thread nD τ) (Pipeline.ucRefs τ sig) (StableHlo.after hostOps1 (W1 m c)) ∗ semVal (barCell c) 0)

/-- The one semaphore that outlives the kernel is the barrier's. -/
theorem unscopedSems0_eq (c : Dev nD) : (unscopedSems0 c : sProp 𝕄) = semVal (barCell c) 0 := by
  unfold unscopedSems0
  rw [bigSep_eq_bigSepL_of_eq [SemLoc.reg barS] (by decide) (by decide)]
  rfl

/-- What a device keeps of its launch holdings for itself. -/
def keeps (c : Dev nD) : sProp 𝕄 :=
  iprop(StableHlo.held (c : Thread nD τ) (Pipeline.ucRefs τ sig) (fun b => m (c, b)) ∗ (cred (tallyAt (barCell c) () 2) ∗ bigSep rows8 (arrivals (F := F) c))
    ∗ owes (c : Thread nD τ) (O₀ c) ∅ ∗ ∃ r, prngReg c r)
/-- What it is dealt of the protocol's state. -/
def given (c : Dev nD) : sProp 𝕄 :=
  iprop(atPos ER (barCell c) 0 ∅ 0 ∗ each (openTok ER) c ∗ dutyTok ER (barCell (xn c)) 0 true ∗ dutyTok ER (barCell (yn c)) 0 false ∗ bigSep rows8 (rights (F := F) c))

/-- The facts, what is dealt and what is kept make up the start. -/
theorem T₀_intro (κ : GSem nD τ sig → ℕ) (c : Dev nD) : iprop(recs (qs m) (ks m) (vs m) κ ∗ (given c ∗ keeps m c)) ⊢ T₀ m c := by
  show _ ⊢ iprop(StableHlo.held (c.tc : Thread nD τ) (Pipeline.ucRefs τ sig) (fun b => m (c, b)) ∗ riding m c)
  unfold given keeps riding Tk dealt
  iintro ⟨#HR, ⟨Hat, Ho, Hx, Hy, Hr⟩, Hh, ⟨H2, Ha⟩, HO, Hp⟩
  isplitl [Hh]; · iexact Hh
  isplitl [Hp]; · iexact Hp
  isplitr [HO]
  · iexists κ
    isplitr; · iexact HR
    isplitr [Ho]
    · isplitl [H2 Hat]
      · isplitl [H2] <;> iassumption
      isplitl [Hx]; · iexact Hx
      isplitl [Hy]; · iexact Hy
      isplitl [Hr] <;> iassumption
    · iexact Ho
  · iexists ∅; iexact HO

/-- All devices' launch holdings make the cells' invariants and each device's start. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(keeps m c ∗ (semVal (barCell c) 0 ∗ G c)) : sProp 𝕄) := by
    rw [show unscopedBufs c (fun b => m ((c : Thread nD τ).loc b)) = StableHlo.held (c : Thread nD τ) (Pipeline.ucRefs τ sig) (fun b => m (c, b)) from
      Pipeline.unscopedBufs_held c (fun b => m (c, b)), unscopedSems0_eq]
    unfold keeps
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  iintro ⟨H, #Hlev⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(keeps m c ∗ (semVal (barCell c) 0 ∗ G c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (Entails.of_eq (G_all (F := F))) $$ HG
  ihave Hv := (Entails.of_eq (bars_eq (fun g => (semVal g 0 : sProp 𝕄))).symm) $$ Hv
  imod (Rounds.fund_launch ER (sched (qs m) (ks m) (vs m)) disjoint_cells (fun g _ h => h) toks) $$ [Hv Hu] with ⟨%κ, -, #Hinv, #Hr, Hat, Hopen, Htok⟩
  · isplitl [Hv] <;> iassumption
  imodintro
  iapply (bigSep_with_persistent (R := recs (qs m) (ks m) (vs m) κ) (Φ := fun c => iprop(given c ∗ keeps m c)) fun c _ => T₀_intro m κ c)
  isplitr
  · unfold recs
    isplitr; · iexact Hinv
    isplitr; · iexact Hr
    iexact Hlev
  iapply bigSep_pair
  isplitr [HB]
  · unfold given
    iapply bigSep_pair; isplitl [Hat]
    · iapply (Entails.of_eq (bars_eq (fun g => (atPos ER g 0 ∅ 0 : sProp 𝕄)))) $$ Hat
    iapply bigSep_pair; isplitl [Hopen]
    · iapply (Entails.of_eq (each_cells (fun g => (openTok ER g : sProp 𝕄)))) $$ Hopen
    iapply (toks_around (F := F)) $$ Htok
  · iexact HB

/-! ## The run -/

/-- No other semaphore outlives the kernel. -/
theorem unscoped_eq : ∀ sm : SemLoc sig, sm.isScoped .tc = false → sm = .reg barS := by decide

/-- The arguments and the result. -/
abbrev Sio : Finset (DevRef τ sig) := {Proc.devRef .tc main_arg0, Proc.devRef .tc main_arg1, Proc.devRef .tc main_arg2, Proc.devRef .tc main_v12}
/-- These are buffers of the whole run. -/
theorem io_sub : Sio ⊆ Pipeline.ucRefs τ sig := by decide
/-- The four buffers written out. -/
theorem io_eq (c : Dev nD) (W : Valuation τ sig (Elt F)) : (StableHlo.held (c : Thread nD τ) Sio W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_v12) ↦{fullShare} W (Proc.devRef .tc main_v12))) := by
  unfold StableHlo.held Sio
  rw [bigSep_eq_bigSepL_of_eq [Proc.devRef .tc main_arg0, Proc.devRef .tc main_arg1, Proc.devRef .tc main_arg2, Proc.devRef .tc main_v12] (by decide) (by decide)]
  rfl

/-- The contents at the end. -/
abbrev Wn (c : Dev nD) : Valuation τ sig (Elt F) := StableHlo.after hostOps1 (W1 m c)

/-- The closing operations write no argument. -/
theorem Wn_arg (c : Dev nD) (b : Ref sig .tc) (h1 : b ≠ main_v10) (h2 : b ≠ main_v11) (h3 : b ≠ main_v12) : Wn m c (Proc.devRef .tc b) = V m c b := by
  refine (StableHlo.after_of_forall_not_mem (b := Proc.devRef .tc b) _ _ (List.forall_iff_forall_mem.mp ?_)).trans (W1_of_ne m c (StableHlo.devRef_ne_of_ne h1))
  simp only [hostOps1, List.Forall, StableHlo.unary_writes, StableHlo.reshape_writes, Finset.mem_singleton]
  exact ⟨StableHlo.devRef_ne_of_ne h2, StableHlo.devRef_ne_of_ne h3⟩

/-- The result: the kernel's, its leading axis split and heads moved back behind the positions. -/
def result (c : Dev nD) : S2x256x8x64.Idx → Elt F .f32 :=
  transpose S2x256x8x64 [0, 2, 1, 3] (shapeCast S2x8x256x64 (os m c) shapeCasts_S16x256x64_S2x8x256x64) transposes_S2x8x256x64_S2x256x8x64_0_2_1_3

/-- The closing operations leave the result in its buffer. -/
theorem Wn_out (c : Dev nD) : Wn m c (Proc.devRef .tc main_v12) = result m c := by
  have h := W1_out m c
  unfold result
  rw [← h]
  rfl

set_option backward.isDefEq.respectTransparency.types false in
/-- From any memory with zero counters every weakly fair execution of the program on the four devices ends, with the arguments as they were, the
    result at its function of the arguments, and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v12) = result m c) ∧ r.2.sem = fun _ => 0) :=
  Pipeline.θ_run_regions_kit_sems (pcfgs (F := F)) adm (dats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, into_region m, out_of_region m, fun c => ?_⟩
      show iprop(StableHlo.held (c : Thread nD τ) (Pipeline.ucRefs τ sig) (Wn m c) ∗ left_ c) ⊢ iprop(Tₙ m c ∗ ∃ W, owes (c : Thread nD τ) (0 : CellTallies nD τ sig Unit) W)
      unfold left_
      iintro ⟨Hh, Hb, HO⟩
      isplitr [HO]
      · isplitl [Hh] <;> iassumption
      · iexact HO)
    (hinit := init m ρ)
    (QY := fun c s => (s.mem ((c : Thread nD τ).loc main_arg0) = Wn m c (Proc.devRef .tc main_arg0) ∧ s.mem ((c : Thread nD τ).loc main_arg1) = Wn m c (Proc.devRef .tc main_arg1)
      ∧ s.mem ((c : Thread nD τ).loc main_arg2) = Wn m c (Proc.devRef .tc main_arg2) ∧ s.mem ((c : Thread nD τ).loc main_v12) = Wn m c (Proc.devRef .tc main_v12))
      ∧ s.sem (barCell c) = 0)
    (hfin := fun c s' => by
      dsimp only [Tₙ]; rw [StableHlo.held_sub_split (c : Thread nD τ) io_sub, io_eq]
      iintro ⟨⟨⟨⟨H0, H1, H2, H3⟩, -⟩, Hb0⟩, HSI⟩
      icombine HSI H0 gives %h0
      icombine HSI H1 gives %h1
      icombine HSI H2 gives %h2
      icombine HSI H3 gives %h3
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        refine ⟨h0.trans ?_, h1.trans ?_, h2.trans ?_, h3.trans (Wn_out m c)⟩
        · exact (Wn_arg m c main_arg0 (by decide) (by decide) (by decide)).trans (V_main_arg0 m c)
        · exact (Wn_arg m c main_arg1 (by decide) (by decide) (by decide)).trans (V_main_arg1 m c)
        · exact (Wn_arg m c main_arg2 (by decide) (by decide) (by decide)).trans (V_main_arg2 m c),
      sem_eq_zero hs fun c sm hsm => by
        obtain rfl := unscoped_eq sm hsm
        exact (h c).2⟩)

end Cert.AttnProof
-- ==== Proof.Softmax.lean ====
/-
Softmax weighting over the extended reals, for real scores: the keys taken in two halves, with the division at the end, give
what all the keys at once give, with the division before the weighting. The weighted values may be infinite.
-/
module

public import Idealize.ShloMosaic.PureOps.Ideal

@[expose] public section

noncomputable section

namespace Cert.AttnProof

open Idealize.ShloMosaic

/-- An extended real that is a real. -/
def IsReal (x : EReal) : Prop := ∃ r : ℝ, x = (r : EReal)

/-- A product of reals is real. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A finite sum of reals is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of reals is real. -/
theorem IsReal.sum {ι : Type} (s : Finset ι) {f : ι → EReal} (h : ∀ i, IsReal (f i)) : IsReal (∑ i ∈ s, f i) := by
  choose g hg using h
  exact ⟨∑ i ∈ s, g i, by rw [← sum_coe]; exact Finset.sum_congr rfl fun i _ => hg i⟩

/-- A real factor that is not negative comes out of a sum, whatever the terms are. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-! ## The scaled score -/

/-- The scale, an eighth. -/
def scale : EReal := Ideal.ofBits .f32 0x3E000000#32

/-- The scale is real. -/
theorem scale_real : IsReal scale := by
  unfold scale
  simp [Ideal.ofBits, Ideal.ieee, -EReal.coe_mul]
  exact ⟨_, rfl⟩

/-- The score of a query row and a key row. -/
def score (q k : Fin 64 → EReal) : EReal := (∑ x, q x * k x) * scale

/-- A score of real rows is real. -/
theorem score_real {q k : Fin 64 → EReal} (hq : ∀ x, IsReal (q x)) (hk : ∀ x, IsReal (k x)) : IsReal (score q k) :=
  (IsReal.sum _ fun x => (hq x).mul (hk x)).mul scale_real

/-! ## The greatest score -/

/-- The greatest of finitely many scores, started from the word of `-∞`. -/
def mx {n : ℕ} (s : Fin n → EReal) : EReal := Finset.univ.fold max (Ideal.ofBits .f32 0xFF800000#32) s

/-- The word of `-∞`. -/
theorem negInf : Ideal.ofBits .f32 0xFF800000#32 = (⊥ : EReal) := by
  simp [Ideal.ofBits, Ideal.ieee]

/-- The greatest score is the supremum. -/
theorem mx_eq {n : ℕ} (s : Fin n → EReal) : mx s = Finset.univ.sup s := by
  unfold mx
  rw [negInf]
  rfl

/-- The greatest of some real scores is real. -/
theorem mx_real {n : ℕ} [NeZero n] {s : Fin n → EReal} (h : ∀ i, IsReal (s i)) : IsReal (mx s) := by
  rw [mx_eq]
  obtain ⟨i, -, hi⟩ := Finset.exists_mem_eq_sup Finset.univ Finset.univ_nonempty s
  rw [hi]
  exact h i

/-! ## Two halves of the keys -/

/-- Key `i` of half `p`. -/
def at_ (p : Fin 2) (i : Fin 256) : Fin 512 := ⟨256 * p.val + i.val, by omega⟩
/-- The other half. -/
def oth (p : Fin 2) : Fin 2 := ⟨1 - p.val, by omega⟩

/-- Every key is in one half or the other. -/
theorem halves_cover (p : Fin 2) (k : Fin 512) : (∃ i, k = at_ p i) ∨ ∃ i, k = at_ (oth p) i := by
  by_cases h : k.val / 256 = p.val
  · exact .inl ⟨⟨k.val % 256, by omega⟩, Fin.ext (by show k.val = 256 * p.val + k.val % 256; omega)⟩
  · exact .inr ⟨⟨k.val % 256, by omega⟩, Fin.ext (by
      show k.val = 256 * (1 - p.val) + k.val % 256
      have := p.isLt; have := k.isLt; omega)⟩

/-- A sum over all keys is the sum over one half and over the other. -/
theorem sum_halves (p : Fin 2) (f : Fin 512 → EReal) : ∑ k, f k = ∑ i, f (at_ p i) + ∑ i, f (at_ (oth p) i) := by
  have h : ∑ k, f k = ∑ i, f (at_ 0 i) + ∑ i, f (at_ 1 i) := by
    refine (Fin.sum_univ_add (a := 256) (b := 256) f).trans (congrArg₂ (· + ·) ?_ ?_)
    · exact Finset.sum_congr rfl fun i _ => congrArg f (Fin.ext (by simp [at_]))
    · exact Finset.sum_congr rfl fun i _ => congrArg f (Fin.ext (by simp [at_]; omega))
  rw [h]
  fin_cases p
  · rfl
  · exact add_comm _ _

/-- The greatest of all scores is the greater of the halves' greatest. -/
theorem mx_halves (p : Fin 2) (s : Fin 512 → EReal) :
    mx s = max (mx fun i => s (at_ p i)) (mx fun i => s (at_ (oth p) i)) := by
  rw [mx_eq, mx_eq, mx_eq]
  refine le_antisymm (Finset.sup_le fun k _ => ?_) (max_le (Finset.sup_le fun i _ => ?_) (Finset.sup_le fun i _ => ?_))
  · rcases halves_cover p k with ⟨i, rfl⟩ | ⟨i, rfl⟩
    · exact le_max_of_le_left (Finset.le_sup (f := fun i => s (at_ p i)) (Finset.mem_univ i))
    · exact le_max_of_le_right (Finset.le_sup (f := fun i => s (at_ (oth p) i)) (Finset.mem_univ i))
  · exact Finset.le_sup (f := s) (Finset.mem_univ _)
  · exact Finset.le_sup (f := s) (Finset.mem_univ _)

/-- The weighted values over all keys at once: the weights are divided by their sum first. -/
def whole (s v : Fin 512 → EReal) : EReal :=
  ∑ k, v k * Ideal.div (Ideal.exp (s k - mx s)) (∑ k, Ideal.exp (s k - mx s))

/-- The weighted values over two halves of the keys: the sum is divided at the end. -/
def split (s t v w : Fin 256 → EReal) : EReal :=
  Ideal.div
    (∑ i, Ideal.exp (s i - max (mx s) (mx t)) * v i + ∑ i, Ideal.exp (t i - max (mx s) (mx t)) * w i)
    (∑ i, Ideal.exp (s i - max (mx s) (mx t)) + ∑ i, Ideal.exp (t i - max (mx s) (mx t)))

/-- For real scores the two are one, for either half first and any values. -/
theorem split_eq_whole (p : Fin 2) {s : Fin 512 → EReal} (hs : ∀ k, IsReal (s k)) (v : Fin 512 → EReal) :
    split (fun i => s (at_ p i)) (fun i => s (at_ (oth p) i)) (fun i => v (at_ p i)) (fun i => v (at_ (oth p) i))
      = whole s v := by
  unfold split whole
  rw [← mx_halves p s, ← sum_halves p fun k => Ideal.exp (s k - mx s) * v k,
    ← sum_halves p fun k => Ideal.exp (s k - mx s)]
  obtain ⟨M, hM⟩ := mx_real hs
  rw [hM]
  choose r hr using hs
  have he : ∀ k, Ideal.exp (s k - (M : EReal)) = ((Real.exp (r k - M) : ℝ) : EReal) := fun k => by
    rw [hr k, ← EReal.coe_sub]; rfl
  simp only [he]
  rw [sum_coe]
  have hL : 0 < ∑ k, Real.exp (r k - M) := Finset.sum_pos (fun k _ => Real.exp_pos _) Finset.univ_nonempty
  rw [Ideal.div_coe hL.ne', sum_mul_real _ _ (one_div_nonneg.mpr hL.le)]
  refine Finset.sum_congr rfl fun k _ => ?_
  rw [Ideal.div_coe hL.ne', mul_comm (v k), mul_right_comm]

end Cert.AttnProof

end
-- ==== Proof.Head.lean ====
/-
What the kernel computes for one row of its result, read at an index.
-/
module

public import proofs.«01_k».proof.Proof.Common
public import proofs.«01_k».proof.Proof.Softmax
public import Idealize.ShloMosaic.Lib.Pointwise

@[expose] public section

set_option maxRecDepth 16384

noncomputable section

namespace Cert.AttnProof

open Cert.KernelIdeal Cert.KernelIdeal.Gen Idealize.ShloMosaic Idealize.ShloMosaic.TcCoe Idealize.SL.Sem

/-- One row's result at an index: the weighted values over the two halves of the keys. -/
theorem headFn_at (q k kr v vr : FVec Ideal S1x256x64 .bf16) (a : Fin 256) (d : Fin 64) :
    headFn (F := Ideal) q k kr v vr (ix3 0 a d)
      = split (fun i => score (fun x => q (ix3 0 a x)) (fun x => k (ix3 0 i x)))
          (fun i => score (fun x => q (ix3 0 a x)) (fun x => kr (ix3 0 i x)))
          (fun i => v (ix3 0 i d)) (fun i => vr (ix3 0 i d)) := by
  pointwise [headFn, k0_pay1, k0_pay2, k0_pay3, split, score, scale, mx]

end Cert.AttnProof

end
-- ==== Proof.Ref.lean ====
/-
The reference's result as one term of its three arrays, and that term read at an index.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.AttnProof

open Cert.ReferenceIdeal Cert.ReferenceIdeal.Gen Idealize.ShloMosaic Idealize.ShloMosaic.TcCoe Idealize.SL.Sem

/-- The scaled scores. -/
def refS (Q K : FVec Ideal S2x512x8x64 .f32) : FVec Ideal S2x8x512x512 .f32 :=
  mulf (Host.dotGeneral dot_S2x512x8x64_S2x512x8x64_S2x8x512x512_3_3_1_1_02_02 none Q K)
    (broadcastInDim S2x8x512x512 ![] bcast_S_S2x8x512x512 (constant S_ .f32 0x3E000000#32))

/-- The exponentials of the scores less their row's greatest. -/
def refP (S : FVec Ideal S2x8x512x512 .f32) : FVec Ideal S2x8x512x512 .f32 :=
  Host.exp (subf S (broadcastInDim S2x8x512x512 ![0, 1, 2, 3] bcast_S2x8x512x1_S2x8x512x512_0_1_2_3
    (broadcastInDim S2x8x512x1 ![0, 1, 2] bcast_S2x8x512_S2x8x512x1_0_1_2
      (Host.reduce FloatOps.maximumf S (constant S_ .f32 0xFF800000#32) reducesTo_S2x8x512x512_S2x8x512_d3 h_S_))))

/-- The result, from the exponentials and the values. -/
def refO (P : FVec Ideal S2x8x512x512 .f32) (V : FVec Ideal S2x512x8x64 .f32) : FVec Ideal S2x512x8x64 .f32 :=
  transpose S2x512x8x64 [0, 3, 1, 2]
    (Host.dotGeneral dot_S2x512x8x64_S2x8x512x512_S2x8x64x512_1_3_3_2_02_01 none V
      (Host.divf P (broadcastInDim S2x8x512x512 ![0, 1, 2, 3] bcast_S2x8x512x1_S2x8x512x512_0_1_2_3
        (broadcastInDim S2x8x512x1 ![0, 1, 2] bcast_S2x8x512_S2x8x512x1_0_1_2
          (Host.reduceAdd P (constant S_ .f32 0x00000000#32) reducesTo_S2x8x512x512_S2x8x512_d3 h_S_)))))
    transposes_S2x8x64x512_S2x512x8x64_0_3_1_2

/-- The reference's result. -/
def refT (Q K V : FVec Ideal S2x512x8x64 .f32) : FVec Ideal S2x512x8x64 .f32 := refO (refP (refS Q K)) V

/-- A score is that of the query's row and the key's. -/
theorem refS_at (Q K : FVec Ideal S2x512x8x64 .f32) (b : Fin 2) (h : Fin 8) (q k : Fin 512) :
    refS Q K (ix4 b h q k) = score (fun x => Q (ix4 b q h x)) (fun x => K (ix4 b k h x)) := by
  pointwise [refS, score, scale]

/-- An exponential is of a score less its row's greatest. -/
theorem refP_at (S : FVec Ideal S2x8x512x512 .f32) (b : Fin 2) (h : Fin 8) (q k : Fin 512) :
    refP S (ix4 b h q k) = Ideal.exp (S (ix4 b h q k) - mx fun x => S (ix4 b h q x)) := by
  pointwise [refP, mx]

/-- A result is the sum of the values, each weighted by its exponential over the row's sum of them. -/
theorem refO_at (P : FVec Ideal S2x8x512x512 .f32) (V : FVec Ideal S2x512x8x64 .f32) (b : Fin 2) (q : Fin 512) (h : Fin 8)
    (d : Fin 64) :
    refO P V (ix4 b q h d)
      = ∑ x, V (ix4 b x h d) * Ideal.div (P (ix4 b h q x)) (∑ x, P (ix4 b h q x)) := by
  pointwise [refO]

/-- The reference's result at an index: the weighted values over all keys at once. -/
theorem refT_at (Q K V : FVec Ideal S2x512x8x64 .f32) (b : Fin 2) (q : Fin 512) (h : Fin 8) (d : Fin 64) :
    refT Q K V (ix4 b q h d)
      = whole (fun k => score (fun x => Q (ix4 b q h x)) (fun x => K (ix4 b k h x))) (fun k => V (ix4 b k h d)) := by
  unfold refT whole
  rw [refO_at]
  simp only [refP_at, refS_at]

end Cert.AttnProof

end
-- ==== Proof.Value.lean ====
/-
The kernel's result is the reference's: each device's result is its block of the reference's result at the whole arrays, when
the queries and keys are finite.
-/
module

public import proofs.«01_k».proof.Proof.Launch
public import proofs.«01_k».proof.Proof.Head
public import proofs.«01_k».proof.Proof.Ref
public import proofs.«01_k».proof.Pre_finite_KernelIdeal
public import Idealize.ShloMosaic.Lib.Layout

@[expose] public section

set_option maxRecDepth 16384

noncomputable section

namespace Cert.AttnProof

open Cert.KernelIdeal Cert.KernelIdeal.Gen Idealize.ShloMosaic Idealize.ShloMosaic.TcCoe Idealize.SL.Sem

/-! ## Finite arguments -/

/-- The precondition's one side condition. -/
instance finiteFacts : Cert.Pre_finite_KernelIdeal.Facts := ⟨by decide⟩

/-- The word of `+∞`. -/
theorem posInf : Ideal.ofBits .f32 0x7F800000#32 = (⊤ : EReal) := by
  simp [Ideal.ofBits, Ideal.ieee]

/-- What is less than `⊤` in size is real. -/
theorem isReal_of_abs {x : EReal} (h : max x (-x) < ⊤) : IsReal x := by
  induction x with
  | bot => simp at h
  | coe r => exact ⟨r, rfl⟩
  | top => simp at h

/-- The precondition: the queries and the keys are reals. -/
theorem finite_real {Q K V : FVec Ideal S2x256x8x64 .f32}
    (h : Cert.Pre_finite_KernelIdeal.fn (F := Ideal) Q K V = fun _ => 1#1) (j : S2x256x8x64.Idx) :
    IsReal (Q j) ∧ IsReal (K j) := by
  have h := congrFun h j
  pointwise [Cert.Pre_finite_KernelIdeal.fn] at h
  rw [posInf] at h
  change BitVec.ofBool (decide (max (Q j) (-Q j) < ⊤)) &&& BitVec.ofBool (decide (max (K j) (-K j) < ⊤)) = 1#1 at h
  by_cases hq : max (Q j) (-Q j) < ⊤ <;> by_cases hk : max (K j) (-K j) < ⊤
  · exact ⟨isReal_of_abs hq, isReal_of_abs hk⟩
  all_goals simp [hq, hk] at h

/-! ## Blocks of the whole arrays -/

/-- A device's place along the first mesh axis: which half of the positions it holds. -/
def half (c : Dev nD) : Fin 2 := ⟨c.val / 2, by have h : c.val < 4 := c.isLt; omega⟩

/-- Across the first axis is the other half. -/
theorem half_xn (c : Dev nD) : half (xn c) = oth (half c) := by revert c; decide
/-- Across the second axis is the same half. -/
theorem half_yn (c : Dev nD) : half (yn c) = half c := by revert c; decide

/-- A device's block of a whole array. -/
abbrev blockOf (c : Dev nD) (X : FVec Ideal ⟨4, ![2, 512, 8, 64]⟩ .f32) : FVec Ideal S2x256x8x64 .f32 :=
  Layout.blockN ⟨4, ![2, 256, 8, 64]⟩ ⟨4, ![2, 512, 8, 64]⟩ (Layout.meshBlock [2, 2] ![[], [0], [], []] c) X

/-- Position `a` of device `c`'s block is position `a` of its half. -/
theorem blockOf_at (c : Dev nD) (X : FVec Ideal ⟨4, ![2, 512, 8, 64]⟩ .f32) (b : Fin 2) (a : Fin 256) (h : Fin 8) (d : Fin 64) :
    blockOf c X (ix4 b a h d) = X (ix4 b (at_ (half c) a) h d) := by
  show X _ = X _
  refine congrArg X (funext fun e => Fin.ext ?_)
  rw [Layout.TilesN.idx_val]
  have hc : c.val < 4 := c.isLt
  fin_cases e <;> simp [at_, half, ix4, Layout.meshBlock_val, Layout.meshLin, Layout.meshCoord, Layout.cutSize]
  omega

/-! ## What the kernel reads -/

/-- An argument as the kernel takes it: batch and head joined in front of the positions. -/
def joined (X : FVec Ideal S2x256x8x64 .f32) : FVec Ideal S16x256x64 .bf16 :=
  shapeCast S16x256x64 (transpose S2x8x256x64 [0, 2, 1, 3] (truncf .bf16 X bitsLt_bf16_f32)
    transposes_S2x256x8x64_S2x8x256x64_0_2_1_3) shapeCasts_S2x8x256x64_S16x256x64

/-- An element of it is that of the argument at the row's batch and head. -/
theorem joined_at (X : FVec Ideal S2x256x8x64 .f32) (i : Fin 16) (a : Fin 256) (d : Fin 64) :
    joined X (ix3 i a d) = X (ix4 ⟨i.val / 8, by omega⟩ a ⟨i.val % 8, by omega⟩ d) := by
  pointwise [joined]

variable (m : (ℓ : Loc nD τ sig) → Buf (Elt Ideal) ℓ)

/-- The kernel's queries are the joined first argument. -/
theorem qs_eq (c : Dev nD) : qs m c = joined (m ((c : Thread nD τ).loc main_arg0)) := rfl
/-- Its keys are the joined second. -/
theorem ks_eq (c : Dev nD) : ks m c = joined (m ((c : Thread nD τ).loc main_arg1)) := rfl
/-- Its values are the joined third. -/
theorem vs_eq (c : Dev nD) : vs m c = joined (m ((c : Thread nD τ).loc main_arg2)) := rfl

/-- A row of the arrays the kernel takes, at a position and a lane. -/
theorem rowOf_at (X : S16x256x64.Idx → Elt Ideal .bf16) (i : Fin 16) (a : Fin 256) (d : Fin 64) :
    rowOf X i (ix3 0 a d) = X (ix3 i a d) := by
  refine congrArg X (funext fun e => ?_)
  fin_cases e <;> rfl

/-- The one index of a row at a position and a lane, written out. -/
theorem ix1_eq (a : Fin 256) (d : Fin 64) : ix1 a d = ix3 0 a d := by
  funext e
  fin_cases e <;> rfl

/-- A row of the result as one head. -/
theorem outC_eq (QS KS VS : Dev nD → S16x256x64.Idx → Elt Ideal .bf16) (c : Dev nD) (i : Fin 16) (a : Fin 256) (d : Fin 64) :
    outC QS KS VS c (ix3 i a d)
      = headFn (F := Ideal) (rowOf (QS c) i) (rowOf (KS c) i) (rowOf (KS (xn c)) i) (rowOf (VS c) i) (rowOf (VS (xn c)) i)
          (ix3 0 a d) := by
  rw [← ix1_eq]
  rfl

/-- The result in the layout of the arguments: batch and head apart again. -/
theorem result_at (c : Dev nD) (b : Fin 2) (a : Fin 256) (h : Fin 8) (d : Fin 64) :
    result m c (ix4 b a h d) = os m c (ix3 ⟨b.val * 8 + h.val, by omega⟩ a d) := by
  pointwise [result]

/-! ## What the kernel computes -/

section
variable (Q K V : FVec Ideal ⟨4, ![2, 512, 8, 64]⟩ .f32)
  (hQ : ∀ c : Dev nD, m ((c : Thread nD τ).loc main_arg0) = blockOf c Q)
  (hK : ∀ c : Dev nD, m ((c : Thread nD τ).loc main_arg1) = blockOf c K)
  (hV : ∀ c : Dev nD, m ((c : Thread nD τ).loc main_arg2) = blockOf c V)
  (fQ : ∀ b q h x, IsReal (Q (ix4 b q h x))) (fK : ∀ b q h x, IsReal (K (ix4 b q h x)))

include hQ hK hV fQ fK

/-- A row of the result, made by the device that holds it, is that row of the reference's result. -/
theorem outC_at (c : Dev nD) (i : Fin 16) (a : Fin 256) (d : Fin 64) :
    outC (qs m) (ks m) (vs m) c (ix3 i a d)
      = refT Q K V (ix4 ⟨i.val / 8, by omega⟩ (at_ (half c) a) ⟨i.val % 8, by omega⟩ d) := by
  rw [outC_eq, headFn_at, refT_at]
  simp only [rowOf_at, qs_eq, ks_eq, vs_eq, joined_at, hQ, hK, hV, blockOf_at, half_xn]
  generalize (⟨i.val / 8, by omega⟩ : Fin 2) = b
  generalize (⟨i.val % 8, by omega⟩ : Fin 8) = h
  exact split_eq_whole (half c)
    (s := fun k => score (fun x => Q (ix4 b (at_ (half c) a) h x)) (fun x => K (ix4 b k h x)))
    (fun k => score_real (fun x => fQ b _ h x) (fun x => fK b k h x)) (fun k => V (ix4 b k h d))

/-- A row of the result on any device: the device at its side holds the same positions. -/
theorem os_at (c : Dev nD) (i : Fin 16) (a : Fin 256) (d : Fin 64) :
    os m c (ix3 i a d) = refT Q K V (ix4 ⟨i.val / 8, by omega⟩ (at_ (half c) a) ⟨i.val % 8, by omega⟩ d) := by
  unfold os finC
  split
  · exact outC_at m Q K V hQ hK hV fQ fK c i a d
  · rw [outC_at m Q K V hQ hK hV fQ fK (yn c) i a d, half_yn]

/-- **A device's result is its block of the reference's result.** -/
theorem result_eq (c : Dev nD) : result m c = blockOf c (refT Q K V) := by
  have e : ∀ (b : Fin 2) (a : Fin 256) (h : Fin 8) (d : Fin 64),
      result m c (ix4 b a h d) = blockOf c (refT Q K V) (ix4 b a h d) := by
    intro b a h d
    rw [result_at, os_at m Q K V hQ hK hV fQ fK, blockOf_at]
    congr 2 <;> exact Fin.ext (by simp <;> omega)
  funext j
  rw [eq_ix4 j]
  exact e _ _ _ _

end

/-- Every position lies in the block of some device. -/
theorem in_block (p : Fin 512) : ∃ (c : Dev nD) (a : Fin 256), at_ (half c) a = p := by
  refine ⟨⟨2 * (p.val / 256), by show _ < 4; omega⟩, ⟨p.val % 256, by omega⟩, Fin.ext ?_⟩
  simp only [at_, half]
  omega

/-- A whole array is real when every device's block of it is. -/
theorem whole_real {X : FVec Ideal ⟨4, ![2, 512, 8, 64]⟩ .f32} (h : ∀ (c : Dev nD) j, IsReal (blockOf c X j)) (b : Fin 2)
    (q : Fin 512) (e : Fin 8) (d : Fin 64) : IsReal (X (ix4 b q e d)) := by
  obtain ⟨c, a, rfl⟩ := in_block q
  rw [← blockOf_at c X]
  exact h c _

end Cert.AttnProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The run, its result forgotten. -/
theorem kept {F : FTy → Type} [FloatOps F]
    (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F)))
      ⟨m, fun _ => 0, g⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
          = m ((c.tc : Thread Cert.KernelIdeal.nD Cert.KernelIdeal.τ).loc Cert.KernelIdeal.main_arg2))
        ∧ r.2.sem = fun _ => 0) :=
  (θ_run (Cert.KernelIdeal.defs (F := F)) _ _).mono
    (fun _ h => ⟨fun c => ⟨(h.1 c).1, (h.1 c).2.1, (h.1 c).2.2.1⟩, h.2⟩) (Cert.AttnProof.run_main (F := F) m g)

/-- The two texts' bodies are one: label by label, the single label there is. -/
theorem defs₀_eq {F : FTy → Type} [FloatOps F] :
    Cert.Kernel.defs₀ (F := F) = Cert.KernelIdeal.defs₀ (F := F) := by
  unfold Cert.Kernel.defs₀ Cert.KernelIdeal.defs₀
  refine congrArg Defs.onTc ?_
  funext ℓ a
  obtain ⟨i, hi⟩ := ℓ
  cases i with
  | zero => rfl
  | succ i => exact absurd hi (Nat.not_lt.2 (Nat.le_add_left _ _))

/-- Hence their tables of bodies and pipelines are one. -/
theorem defs_eq {F : FTy → Type} [FloatOps F] :
    Cert.Kernel.defs (F := F) = Cert.KernelIdeal.defs (F := F) :=
  congrArg (Pipeline.defs Cert.KernelIdeal.pcfgs) defs₀_eq

/-- The kernel over words ends, keeps its arguments and leaves every counter at zero: its text is the idealized one's,
    whose run holds for any reading of the floats. -/
theorem frame_kernel : Cert.quiescent_Kernel := fun m g _ => by
  have h := kept (F := Bits) m g
  rw [← defs_eq] at h
  exact h

/-- The same over the extended reals. -/
theorem frame_ideal : Cert.quiescent_KernelIdeal := fun m g _ =>
  kept (F := Ideal) m g

/-- The reference ends and keeps its arguments; it has no semaphore. -/
theorem frame_reference : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run m g)

/-- The side conditions of the precondition, read of one device's blocks. -/
theorem finite_kernel : Cert.Pre_finite_KernelIdeal.Facts := ⟨by decide⟩

/-- The same of the precondition read of the whole arrays. -/
theorem finite_reference : Cert.Pre_finite_ReferenceIdeal.Facts := ⟨by decide⟩

/-- **The kernel's result is the reference's**, on every device its block, when the queries and keys are finite. -/
theorem algebraic : Cert.algebraic_KernelIdeal_ReferenceIdeal_pre_finite_KernelIdeal
    (hPre_finite_KernelIdeal := finite_kernel) := fun m g m' g' pre rel => by
  have real := fun c j => Cert.AttnProof.finite_real (pre c) j
  refine ⟨Cert.AttnProof.refT
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    ?_, ?_⟩
  · refine (θ_run (Cert.KernelIdeal.defs (F := Ideal)) _ _).mono (fun r h c => ?_) (Cert.AttnProof.run_main (F := Ideal) m g)
    refine ⟨(h.1 c).2.2.2.trans ?_, (h.1 c).1, (h.1 c).2.1, (h.1 c).2.2.1⟩
    exact Cert.AttnProof.result_eq m _ _ _ (fun c => (rel c).1) (fun c => (rel c).2.1) (fun c => (rel c).2.2)
      (Cert.AttnProof.whole_real fun c j => by have h := (real c j).1; rw [(rel c).1] at h; exact h)
      (Cert.AttnProof.whole_real fun c j => by have h := (real c j).2; rw [(rel c).2.1] at h; exact h) c
  · exact (θ_run (Cert.ReferenceIdeal.defs (F := Ideal)) _ _).mono (fun r h => h 0) (Cert.ReferenceIdeal.Value.run m' g')

/-- Everything claimed: the frames under the precondition are the frames without it. -/
theorem claim : Cert.Claim :=
  ⟨Cert.Kernel.Gen.facts, Cert.KernelIdeal.Gen.facts, Cert.ReferenceIdeal.Gen.facts, finite_kernel, finite_reference,
    frame_kernel, frame_ideal, fun m g _ => frame_ideal m g trivial, frame_reference,
    fun m g _ => frame_reference m g trivial, trivial, algebraic⟩

end Cert.Proof

end
